-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5))
      ∧ r.2.sem = fun _ => 0)

def preserves_Fwd_FwdIdeal : Prop :=
  IdealRules.named_const.Statement Cert.FwdIdeal.κ "inv_cap" .f32 0x3D088889#32 ((1 / 30 : ℝ) : EReal)
  ∧ IdealRules.named_const.Statement Cert.FwdIdeal.κ "cap_log2e" .f32 0x422D1F97#32 ((30 * (Real.log 2)⁻¹ : ℝ) : EReal)
  ∧ IdealRules.named_const.Statement Cert.FwdIdeal.κ "log2e" .f32 0x3FB8AA3B#32 (((Real.log 2)⁻¹ : ℝ) : EReal)

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v3_0)) (v1 : (c : Dev Cert.FwdIdeal.nD) → Buf (Elt Ideal) ((c.tc : Thread Cert.FwdIdeal.nD Cert.FwdIdeal.τ).loc Cert.FwdIdeal.main_v3_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v3_0) = v0 c
          ∧ r.2.mem ((c.tc : Thread Cert.FwdIdeal.nD Cert.FwdIdeal.τ).loc Cert.FwdIdeal.main_v3_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v2_0) = v0 c
          ∧ r.2.mem ((c.tc : Thread Cert.FwdRefIdeal.nD Cert.FwdRefIdeal.τ).loc Cert.FwdRefIdeal.main_v2_1) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Bwd_BwdIdeal : Prop :=
  IdealRules.named_const.Statement Cert.BwdIdeal.κ "cap_log2e" .f32 0x422D1F97#32 ((30 * (Real.log 2)⁻¹ : ℝ) : EReal)
  ∧ IdealRules.named_const.Statement Cert.BwdIdeal.κ "log2e" .f32 0x3FB8AA3B#32 (((Real.log 2)⁻¹ : ℝ) : EReal)
  ∧ IdealRules.named_const.Statement Cert.BwdIdeal.κ "ln2" .f32 0x3F317218#32 ((Real.log 2 : ℝ) : EReal)

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)) →
    ∃ (v0 : (c : Dev Cert.BwdIdeal.nD) → Buf (Elt Ideal) ((c.tc : Thread Cert.BwdIdeal.nD Cert.BwdIdeal.τ).loc Cert.BwdIdeal.main_v5_0)) (v1 : (c : Dev Cert.BwdIdeal.nD) → Buf (Elt Ideal) ((c.tc : Thread Cert.BwdIdeal.nD Cert.BwdIdeal.τ).loc Cert.BwdIdeal.main_v5_1)) (v2 : (c : Dev Cert.BwdIdeal.nD) → Buf (Elt Ideal) ((c.tc : Thread Cert.BwdIdeal.nD Cert.BwdIdeal.τ).loc Cert.BwdIdeal.main_v5_2)) (v3 : (c : Dev Cert.BwdIdeal.nD) → Buf (Elt Ideal) ((c.tc : Thread Cert.BwdIdeal.nD Cert.BwdIdeal.τ).loc Cert.BwdIdeal.main_v5_3)) (v4 : (c : Dev Cert.BwdIdeal.nD) → Buf (Elt Ideal) ((c.tc : Thread Cert.BwdIdeal.nD Cert.BwdIdeal.τ).loc Cert.BwdIdeal.main_v5_4)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v5_0) = v0 c
          ∧ r.2.mem ((c.tc : Thread Cert.BwdIdeal.nD Cert.BwdIdeal.τ).loc Cert.BwdIdeal.main_v5_1) = v1 c
          ∧ r.2.mem ((c.tc : Thread Cert.BwdIdeal.nD Cert.BwdIdeal.τ).loc Cert.BwdIdeal.main_v5_2) = v2 c
          ∧ r.2.mem ((c.tc : Thread Cert.BwdIdeal.nD Cert.BwdIdeal.τ).loc Cert.BwdIdeal.main_v5_3) = v3 c
          ∧ r.2.mem ((c.tc : Thread Cert.BwdIdeal.nD Cert.BwdIdeal.τ).loc Cert.BwdIdeal.main_v5_4) = v4 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v3_0) = v0 c
          ∧ r.2.mem ((c.tc : Thread Cert.BwdRefIdeal.nD Cert.BwdRefIdeal.τ).loc Cert.BwdRefIdeal.main_v3_1) = v1 c
          ∧ r.2.mem ((c.tc : Thread Cert.BwdRefIdeal.nD Cert.BwdRefIdeal.τ).loc Cert.BwdRefIdeal.main_v3_2) = v2 c
          ∧ r.2.mem ((c.tc : Thread Cert.BwdRefIdeal.nD Cert.BwdRefIdeal.τ).loc Cert.BwdRefIdeal.main_v3_3) = v3 c
          ∧ r.2.mem ((c.tc : Thread Cert.BwdRefIdeal.nD Cert.BwdRefIdeal.τ).loc Cert.BwdRefIdeal.main_v3_4) = v4 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5))

def Claim : Prop :=
  ∃ (hFwd : Cert.Fwd.Facts) (hFwdIdeal : Cert.FwdIdeal.Facts) (hFwdRefIdeal : Cert.FwdRefIdeal.Facts) (hBwd : Cert.Bwd.Facts) (hBwdIdeal : Cert.BwdIdeal.Facts) (hBwdRefIdeal : Cert.BwdRefIdeal.Facts),
    quiescent_Fwd (hFwd := hFwd)
    ∧ quiescent_FwdIdeal (hFwdIdeal := hFwdIdeal)
    ∧ quiescent_FwdRefIdeal (hFwdRefIdeal := hFwdRefIdeal)
    ∧ quiescent_Bwd (hBwd := hBwd)
    ∧ quiescent_BwdIdeal (hBwdIdeal := hBwdIdeal)
    ∧ quiescent_BwdRefIdeal (hBwdRefIdeal := hBwdRefIdeal)
    ∧ preserves_Fwd_FwdIdeal
    ∧ algebraic_FwdIdeal_FwdRefIdeal (hFwdIdeal := hFwdIdeal) (hFwdRefIdeal := hFwdRefIdeal)
    ∧ preserves_Bwd_BwdIdeal
    ∧ algebraic_BwdIdeal_BwdRefIdeal (hBwdIdeal := hBwdIdeal) (hBwdRefIdeal := hBwdRefIdeal)
-- ==== Fwd.lean ====
abbrev S1280x2048 : Shape := ⟨2, ![1280, 2048]⟩
abbrev S1280 : Shape := ⟨1, ![1280]⟩
abbrev S49152x2048 : Shape := ⟨2, ![49152, 2048]⟩
abbrev S49152 : Shape := ⟨1, ![49152]⟩
abbrev S1280x1 : Shape := ⟨2, ![1280, 1]⟩
abbrev S1280x128 : Shape := ⟨2, ![1280, 128]⟩
abbrev S1x49152 : Shape := ⟨2, ![1, 49152]⟩
abbrev S1280x49152 : Shape := ⟨2, ![1280, 49152]⟩
abbrev S1024x2048 : Shape := ⟨2, ![1024, 2048]⟩
abbrev S1x1024 : Shape := ⟨2, ![1, 1024]⟩
abbrev S1280x1024 : Shape := ⟨2, ![1280, 1024]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S1280x2048, .fp8e4m3⟩
  | .hbm, ⟨1, _⟩ => ⟨S1280, .f32⟩
  | .hbm, ⟨2, _⟩ => ⟨S49152x2048, .fp8e4m3⟩
  | .hbm, ⟨3, _⟩ => ⟨S49152, .f32⟩
  | .hbm, ⟨4, _⟩ => ⟨S1280x1, .f32⟩
  | .hbm, ⟨5, _⟩ => ⟨S1280x128, .f32⟩
  | .hbm, ⟨6, _⟩ => ⟨S1x49152, .f32⟩
  | .hbm, ⟨7, _⟩ => ⟨S1280x49152, .f32⟩
  | .hbm, ⟨8, _⟩ => ⟨S1280x128, .f32⟩
  | .local _ .vmem, ⟨0, _⟩ => ⟨S1280x2048, .fp8e4m3⟩
  | .local _ .vmem, ⟨1, _⟩ => ⟨S1280x128, .f32⟩
  | .local _ .vmem, ⟨2, _⟩ => ⟨S1024x2048, .fp8e4m3⟩
  | .local _ .vmem, ⟨3, _⟩ => ⟨S1024x2048, .fp8e4m3⟩
  | .local _ .vmem, ⟨4, _⟩ => ⟨S1x1024, .f32⟩
  | .local _ .vmem, ⟨5, _⟩ => ⟨S1x1024, .f32⟩
  | .local _ .vmem, ⟨6, _⟩ => ⟨S1280x1024, .f32⟩
  | .local _ .vmem, ⟨7, _⟩ => ⟨S1280x1024, .f32⟩
  | .local _ .vmem, ⟨8, _⟩ => ⟨S1280x128, .f32⟩
  | .local _ .vmem, ⟨9, _⟩ => ⟨S1280x128, .f32⟩
  | _, _ => ⟨S1280x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v106 : BitVec 1 := Scalar.cmpi .eq arg0 c47_i32
  let v107 : BitVec 32 := Scalar.extui v106
  let c0_i32_31 : BitVec 32 := 0#32
  let v108 : BitVec 1 := Scalar.cmpi .ne v107 c0_i32_31
  v108

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FwdIdeal.lean ====
variable {F : FTy → Type} [FloatOps F] [Named F]
def κ : String → Option EReal := fun
  | "cap_log2e" => some ((30 * (Real.log 2)⁻¹ : ℝ) : EReal)
  | "inv_cap" => some ((1 / 30 : ℝ) : EReal)
  | "log2e" => some (((Real.log 2)⁻¹ : ℝ) : EReal)
  | _ => none
-- ==== FwdRefIdeal.lean ====
abbrev S1280x2048 : Shape := ⟨2, ![1280, 2048]⟩
abbrev S1280 : Shape := ⟨1, ![1280]⟩
abbrev S49152x2048 : Shape := ⟨2, ![49152, 2048]⟩
abbrev S49152 : Shape := ⟨1, ![49152]⟩
abbrev S1280x1 : Shape := ⟨2, ![1280, 1]⟩
abbrev S1x49152 : Shape := ⟨2, ![1, 49152]⟩
abbrev S1280x49152 : Shape := ⟨2, ![1280, 49152]⟩
abbrev S1280x128 : Shape := ⟨2, ![1280, 128]⟩

abbrev nBuf : Space → Nat
  | .hbm => 8
  | .vmem => 6
  | .smem => 0
  | _ => 0

abbrev bufTy : (tb : Table) → Fin (tcTables nBuf tb) → BufTy
  | .hbm, ⟨0, _⟩ => ⟨S1280x2048, .fp8e4m3⟩
  | .hbm, ⟨1, _⟩ => ⟨S1280, .f32⟩
  | .hbm, ⟨2, _⟩ => ⟨S49152x2048, .fp8e4m3⟩
  | .hbm, ⟨3, _⟩ => ⟨S49152, .f32⟩
  | .hbm, ⟨4, _⟩ => ⟨S1280x1, .f32⟩
  | .hbm, ⟨5, _⟩ => ⟨S1x49152, .f32⟩
  | .hbm, ⟨6, _⟩ => ⟨S1280x49152, .f32⟩
  | .hbm, ⟨7, _⟩ => ⟨S1280x128, .f32⟩
  | .local _ .vmem, ⟨0, _⟩ => ⟨S1280x2048, .fp8e4m3⟩
  | .local _ .vmem, ⟨1, _⟩ => ⟨S1280x1, .f32⟩
  | .local _ .vmem, ⟨2, _⟩ => ⟨S49152x2048, .fp8e4m3⟩
  | .local _ .vmem, ⟨3, _⟩ => ⟨S1x49152, .f32⟩
  | .local _ .vmem, ⟨4, _⟩ => ⟨S1280x49152, .f32⟩
  | .local _ .vmem, ⟨5, _⟩ => ⟨S1280x128, .f32⟩
  | _, _ => ⟨S1280x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S1280x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x49152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x49152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Bwd.lean ====
abbrev S1280x49152 : Shape := ⟨2, ![1280, 49152]⟩
abbrev S49152x2048 : Shape := ⟨2, ![49152, 2048]⟩
abbrev S49152 : Shape := ⟨1, ![49152]⟩
abbrev S1280 : Shape := ⟨1, ![1280]⟩
abbrev S2x640 : Shape := ⟨2, ![2, 640]⟩
abbrev S1280x2048 : Shape := ⟨2, ![1280, 2048]⟩
abbrev S1x49152 : Shape := ⟨2, ![1, 49152]⟩
abbrev S1280x1 : Shape := ⟨2, ![1280, 1]⟩
abbrev S1280x128 : Shape := ⟨2, ![1280, 128]⟩
abbrev S1280x384 : Shape := ⟨2, ![1280, 384]⟩
abbrev S1280x512 : Shape := ⟨2, ![1280, 512]⟩
abbrev S512x2048 : Shape := ⟨2, ![512, 2048]⟩
abbrev S1x512 : Shape := ⟨2, ![1, 512]⟩
abbrev S32x128 : Shape := ⟨2, ![32, 128]⟩
abbrev S32 : Shape := ⟨1, ![32]⟩
abbrev S32x1 : Shape := ⟨2, ![32, 1]⟩
abbrev S1x128 : Shape := ⟨2, ![1, 128]⟩

abbrev nBuf : Space → Nat
  | .hbm => 16
  | .vmem => 21
  | .smem => 0
  | _ => 0

abbrev bufTy : (tb : Table) → Fin (tcTables nBuf tb) → BufTy
  | .hbm, ⟨0, _⟩ => ⟨S1280x49152, .f32⟩
  | .hbm, ⟨1, _⟩ => ⟨S49152x2048, .fp8e4m3⟩
  | .hbm, ⟨2, _⟩ => ⟨S49152, .f32⟩
  | .hbm, ⟨3, _⟩ => ⟨S1280, .f32⟩
  | .hbm, ⟨4, _⟩ => ⟨S2x640, .i32⟩
  | .hbm, ⟨5, _⟩ => ⟨S1280x2048, .bf16⟩
  | .hbm, ⟨6, _⟩ => ⟨S1x49152, .f32⟩
  | .hbm, ⟨7, _⟩ => ⟨S1280x1, .f32⟩
  | .hbm, ⟨8, _⟩ => ⟨S1280x128, .f32⟩
  | .hbm, ⟨9, _⟩ => ⟨S1280x1, .i32⟩
  | .hbm, ⟨10, _⟩ => ⟨S1280x128, .i32⟩
  | .hbm, ⟨11, _⟩ => ⟨S1280x49152, .fp8e5m2⟩
  | .hbm, ⟨12, _⟩ => ⟨S1280x384, .f32⟩
  | .hbm, ⟨13, _⟩ => ⟨S49152x2048, .f32⟩
  | .hbm, ⟨14, _⟩ => ⟨S1280x2048, .bf16⟩
  | .hbm, ⟨15, _⟩ => ⟨S1280x128, .f32⟩
  | .local _ .vmem, ⟨0, _⟩ => ⟨S1280x512, .f32⟩
  | .local _ .vmem, ⟨1, _⟩ => ⟨S1280x512, .f32⟩
  | .local _ .vmem, ⟨2, _⟩ => ⟨S512x2048, .fp8e4m3⟩
  | .local _ .vmem, ⟨3, _⟩ => ⟨S512x2048, .fp8e4m3⟩
  | .local _ .vmem, ⟨4, _⟩ => ⟨S1x512, .f32⟩
  | .local _ .vmem, ⟨5, _⟩ => ⟨S1x512, .f32⟩
  | .local _ .vmem, ⟨6, _⟩ => ⟨S1280x128, .f32⟩
  | .local _ .vmem, ⟨7, _⟩ => ⟨S1280x128, .i32⟩
  | .local _ .vmem, ⟨8, _⟩ => ⟨S1280x2048, .bf16⟩
  | .local _ .vmem, ⟨9, _⟩ => ⟨S1280x512, .fp8e5m2⟩
  | .local _ .vmem, ⟨10, _⟩ => ⟨S1280x512, .fp8e5m2⟩
  | .local _ .vmem, ⟨11, _⟩ => ⟨S1280x128, .f32⟩
  | .local _ .vmem, ⟨12, _⟩ => ⟨S1280x128, .f32⟩
  | .local _ .vmem, ⟨13, _⟩ => ⟨S512x2048, .f32⟩
  | .local _ .vmem, ⟨14, _⟩ => ⟨S512x2048, .f32⟩
  | .local _ .vmem, ⟨15, _⟩ => ⟨S1280x2048, .bf16⟩
  | .local _ .vmem, ⟨16, _⟩ => ⟨S1280x128, .f32⟩
  | .local _ .vmem, ⟨17, _⟩ => ⟨S1280x512, .bf16⟩
  | .local _ .vmem, ⟨18, _⟩ => ⟨S1280x512, .bf16⟩
  | .local _ .vmem, ⟨19, _⟩ => ⟨S1280x2048, .f32⟩
  | .local _ .vmem, ⟨20, _⟩ => ⟨S1280x128, .f32⟩
  | _, _ => ⟨S1280x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![96], ![false]⟩

def k0_cond2 (i : grid0.Coords) : BitVec 1 :=
  let arg0 : BitVec 32 := BitVec.ofNat 32 (i 0).val
  let c95_i32 : BitVec 32 := 95#32
  let v10829 : BitVec 1 := Scalar.cmpi .eq arg0 c95_i32
  let v10830 : BitVec 32 := Scalar.extui v10829
  let c0_i32_4654 : BitVec 32 := 0#32
  let v10831 : BitVec 1 := Scalar.cmpi .ne v10830 c0_i32_4654
  v10831

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1280x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1280x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1280x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BwdIdeal.lean ====
variable {F : FTy → Type} [FloatOps F] [Named F]
def κ : String → Option EReal := fun
  | "cap_log2e" => some ((30 * (Real.log 2)⁻¹ : ℝ) : EReal)
  | "ln2" => some ((Real.log 2 : ℝ) : EReal)
  | "log2e" => some (((Real.log 2)⁻¹ : ℝ) : EReal)
  | _ => none
-- ==== BwdRefIdeal.lean ====
abbrev S1280x49152 : Shape := ⟨2, ![1280, 49152]⟩
abbrev S49152x2048 : Shape := ⟨2, ![49152, 2048]⟩
abbrev S49152 : Shape := ⟨1, ![49152]⟩
abbrev S1280 : Shape := ⟨1, ![1280]⟩
abbrev S2x640 : Shape := ⟨2, ![2, 640]⟩
abbrev S1280x2048 : Shape := ⟨2, ![1280, 2048]⟩
abbrev S49152x1 : Shape := ⟨2, ![49152, 1]⟩
abbrev S1280x1 : Shape := ⟨2, ![1280, 1]⟩
abbrev S1280x384 : Shape := ⟨2, ![1280, 384]⟩
abbrev S1280x128 : Shape := ⟨2, ![1280, 128]⟩
abbrev S1280x384x128 : Shape := ⟨3, ![1280, 384, 128]⟩
abbrev S1280x384x1 : Shape := ⟨3, ![1280, 384, 1]⟩

abbrev nBuf : Space → Nat
  | .hbm => 14
  | .vmem => 11
  | .smem => 0
  | _ => 0

abbrev bufTy : (tb : Table) → Fin (tcTables nBuf tb) → BufTy
  | .hbm, ⟨0, _⟩ => ⟨S1280x49152, .f32⟩
  | .hbm, ⟨1, _⟩ => ⟨S49152x2048, .fp8e4m3⟩
  | .hbm, ⟨2, _⟩ => ⟨S49152, .f32⟩
  | .hbm, ⟨3, _⟩ => ⟨S1280, .f32⟩
  | .hbm, ⟨4, _⟩ => ⟨S2x640, .i32⟩
  | .hbm, ⟨5, _⟩ => ⟨S1280x2048, .bf16⟩
  | .hbm, ⟨6, _⟩ => ⟨S49152x1, .f32⟩
  | .hbm, ⟨7, _⟩ => ⟨S1280x1, .f32⟩
  | .hbm, ⟨8, _⟩ => ⟨S1280x1, .i32⟩
  | .hbm, ⟨9, _⟩ => ⟨S1280x49152, .fp8e5m2⟩
  | .hbm, ⟨10, _⟩ => ⟨S1280x384, .f32⟩
  | .hbm, ⟨11, _⟩ => ⟨S49152x2048, .f32⟩
  | .hbm, ⟨12, _⟩ => ⟨S1280x2048, .bf16⟩
  | .hbm, ⟨13, _⟩ => ⟨S1280x128, .f32⟩
  | .local _ .vmem, ⟨0, _⟩ => ⟨S1280x49152, .f32⟩
  | .local _ .vmem, ⟨1, _⟩ => ⟨S49152x2048, .fp8e4m3⟩
  | .local _ .vmem, ⟨2, _⟩ => ⟨S49152x1, .f32⟩
  | .local _ .vmem, ⟨3, _⟩ => ⟨S1280x1, .f32⟩
  | .local _ .vmem, ⟨4, _⟩ => ⟨S1280x1, .i32⟩
  | .local _ .vmem, ⟨5, _⟩ => ⟨S1280x2048, .bf16⟩
  | .local _ .vmem, ⟨6, _⟩ => ⟨S1280x49152, .fp8e5m2⟩
  | .local _ .vmem, ⟨7, _⟩ => ⟨S1280x384, .f32⟩
  | .local _ .vmem, ⟨8, _⟩ => ⟨S49152x2048, .f32⟩
  | .local _ .vmem, ⟨9, _⟩ => ⟨S1280x2048, .bf16⟩
  | .local _ .vmem, ⟨10, _⟩ => ⟨S1280x128, .f32⟩
  | _, _ => ⟨S1280x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | "log2e" => some (((Real.log 2)⁻¹ : ℝ) : EReal)
  | _ => none

abbrev grid0 : Pipeline.Grid := .none

abbrev stage0_0 : Fin 1 → Memref sig .tc .vmem S1280x49152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x49152 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S49152x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1280x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Math.lean ====
/-
  The mathematics of the soft-capped cross entropy over the extended reals, without any program: the two spellings of the
  exponential and of the logarithm of a sum of exponentials (base two with folded constants, base e), the scaled
  difference under an exponential, and a quotient by thirty as a product.
-/
module

public import Idealize.ShloMosaic.PureOps.Ideal
public import Idealize.ShloMosaic.Lib.Pointwise

@[expose] public section

noncomputable section

namespace Cert.XEnt

open Idealize.ShloMosaic

/-- `30 / log 2`, the factor the kernel's base-two exponential carries. -/
abbrev capLog2e : EReal := ((30 * (Real.log 2)⁻¹ : ℝ) : EReal)
/-- `1 / log 2`. -/
abbrev log2e : EReal := (((Real.log 2)⁻¹ : ℝ) : EReal)
/-- `log 2`. -/
abbrev ln2 : EReal := ((Real.log 2 : ℝ) : EReal)

theorem log_two_pos : 0 < Real.log 2 := Real.log_pos (by norm_num)

/-- The hyperbolic tangent of any extended real is a real number. -/
theorem tanh_real (x : EReal) : ∃ r : ℝ, Ideal.tanh x = (r : EReal) := by
  induction x using EReal.rec with
  | bot => exact ⟨-1, rfl⟩
  | coe r => exact ⟨Real.tanh r, rfl⟩
  | top => exact ⟨1, rfl⟩

/-- The base-two exponential is the exponential of the argument times `log 2`, at every extended real. -/
theorem exp2_eq_exp (x : EReal) : Ideal.exp2 x = Ideal.exp (x * ln2) := by
  induction x using EReal.rec with
  | bot => rw [EReal.bot_mul_coe_of_pos log_two_pos]; rfl
  | coe r =>
    rw [← EReal.coe_mul]
    show ((Real.rpow 2 r : ℝ) : EReal) = ((Real.exp (r * Real.log 2) : ℝ) : EReal)
    rw [show Real.rpow 2 r = (2 : ℝ) ^ r from rfl, Real.rpow_def_of_pos (by norm_num), mul_comm]
  | top => rw [EReal.top_mul_coe_of_pos log_two_pos]; rfl

theorem cap_mul (t : EReal) : t * capLog2e * ln2 = 30 * t := by
  rw [mul_assoc, ← EReal.coe_mul, mul_assoc, inv_mul_cancel₀ log_two_pos.ne', mul_one, mul_comm]
  rfl

/-- A difference times `log 2`, at every extended real: the factor is finite and positive. -/
theorem sub_mul_ln2 (a b : EReal) : (a - b) * ln2 = a * ln2 - b * ln2 := by
  rw [mul_comm, sub_eq_add_neg, EReal.left_distrib_of_nonneg_of_ne_top (EReal.coe_nonneg.mpr log_two_pos.le) (EReal.coe_ne_top _),
    mul_comm, mul_comm _ (-b), EReal.neg_mul, ← sub_eq_add_neg]

/-- The kernel's probability is the reference's: `2^(t·30/log 2 − l) = exp (30·t − l·log 2)`. -/
theorem prob_eq (t l : EReal) : Ideal.exp2 (t * capLog2e - l) = Ideal.exp (30 * t - l * ln2) := by
  rw [exp2_eq_exp, sub_mul_ln2, cap_mul]

/-- A product by thirty of a sum of two extended reals. -/
theorem thirty_mul_add (a b : EReal) : 30 * (a + b) = 30 * a + 30 * b :=
  EReal.left_distrib_of_nonneg_of_ne_top (x := ((30 : ℝ) : EReal)) (EReal.coe_nonneg.mpr (by norm_num)) (EReal.coe_ne_top 30) a b

/-- A product by thirty of a finite sum. -/
theorem thirty_mul_sum {ι : Type*} (s : Finset ι) (f : ι → EReal) : 30 * ∑ i ∈ s, f i = ∑ i ∈ s, 30 * f i := by
  classical
  induction s using Finset.induction_on with
  | empty => simp
  | insert a s ha ih => rw [Finset.sum_insert ha, Finset.sum_insert ha, thirty_mul_add, ih]

theorem div_thirty (x : EReal) : Ideal.div x 30 = x * ((1 / 30 : ℝ) : EReal) := by
  have h30 : (30 : EReal) = ((30 : ℝ) : EReal) := rfl
  unfold Ideal.div
  rw [if_neg (by rw [h30]; exact fun h => by norm_num [EReal.coe_eq_zero] at h), h30, ← EReal.coe_inv, one_div]

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals, at least one, is a real. -/
theorem fold_max_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs (by simp)
  | insert a s ha ih =>
    rw [Finset.fold_insert ha]
    rcases s.eq_empty_or_nonempty with rfl | h
    · exact ⟨f a, by simp⟩
    · obtain ⟨r, hr⟩ := ih h
      exact ⟨max (f a) r, by rw [hr]; exact (EReal.coe_strictMono.monotone.map_max).symm⟩

/-- The base-two log of the sum of `2^(t·30/log 2)` is the shifted log-sum-exp of `30·t`, both times `1/log 2`. -/
theorem lse_eq {ι : Type*} [Fintype ι] [Nonempty ι] (t : ι → EReal) (ht : ∀ i, ∃ r : ℝ, t i = (r : EReal)) :
    Ideal.log (∑ i, Ideal.exp2 (t i * capLog2e))
      = Finset.univ.fold max (⊥ : EReal) (fun i => 30 * t i)
        + Ideal.log (∑ i, Ideal.exp (30 * t i - Finset.univ.fold max (⊥ : EReal) (fun i => 30 * t i))) := by
  choose r hr using ht
  have e30 : ∀ i, (30 : EReal) * t i = ((30 * r i : ℝ) : EReal) := fun i => by rw [hr i, EReal.coe_mul]; rfl
  simp only [exp2_eq_exp, cap_mul, e30]
  obtain ⟨z, hz⟩ := fold_max_real (Finset.univ : Finset ι) Finset.univ_nonempty (fun i => 30 * r i)
  rw [hz]
  have hexp : ∀ x : ℝ, Ideal.exp (x : EReal) = ((Real.exp x : ℝ) : EReal) := fun _ => rfl
  simp only [← EReal.coe_sub, hexp, coe_sum]
  have hlog : ∀ x : ℝ, 0 < x → Ideal.log (x : EReal) = ((Real.log x : ℝ) : EReal) := fun x hx => by
    show (if x ≤ 0 then (⊥ : EReal) else ((Real.log x : ℝ) : EReal)) = _
    rw [if_neg (not_le.mpr hx)]
  have hpos : ∀ g : ι → ℝ, 0 < ∑ i, Real.exp (g i) := fun g => Finset.sum_pos (fun i _ => Real.exp_pos _) Finset.univ_nonempty
  rw [hlog _ (hpos _), hlog _ (hpos _), ← EReal.coe_add]
  congr 1
  simp only [Real.exp_sub, ← Finset.sum_div]
  rw [Real.log_div (hpos _).ne' (Real.exp_pos _).ne', Real.log_exp]
  ring

/-- The constant `30`. -/
theorem ofBits_thirty : Ideal.ofBits .f32 1106247680#32 = 30 := by
  show _ = ((30 : ℝ) : EReal)
  simp [Ideal.ofBits, Ideal.ieee, -EReal.coe_mul]; norm_num

/-- The constant `-∞`. -/
theorem ofBits_ninf : Ideal.ofBits .f32 4286578688#32 = ⊥ := by
  simp [Ideal.ofBits, Ideal.ieee]

end Cert.XEnt

end
-- ==== Proof.FwdKernel.lean ====
/-
  The kernel side of the forward call: what the two result arrays end holding over the extended reals, entry by entry.
  `t[p, v] = tanh ((Σ_k hq[p,k]·w[v,k]) · hs[p] · ws[v] / 30)` and `lse2[p] = log (Σ_v exp2 (t[p,v] · 30/ln 2)) / ln 2`.
-/
module

public import proofs.«01_k».proof.Proof.Gen.FwdIdeal.Value
public import proofs.«01_k».proof.Proof.Math
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FwdIdeal.Hand

open Cert.FwdIdeal Cert.FwdIdeal.Gen Cert.XEnt

theorem inv_cap : Named.named (F := Ideal) Cert.FwdIdeal.κ "inv_cap" (φ := .f32) 1023969417#32 = ((1 / 30 : ℝ) : EReal) :=
  IdealRules.named_const.ideal_named_scalar _ _ _ _ rfl
theorem cap_log2e : Named.named (F := Ideal) Cert.FwdIdeal.κ "cap_log2e" (φ := .f32) 1110253463#32 = capLog2e :=
  IdealRules.named_const.ideal_named_scalar _ _ _ _ rfl
theorem log2e_eq : Named.named (F := Ideal) Cert.FwdIdeal.κ "log2e" (φ := .f32) 1069066811#32 = log2e :=
  IdealRules.named_const.ideal_named_scalar _ _ _ _ rfl

/-- One entry of a block of capped logits, from the blocks the grid point reads. -/
def cell (x0 : Vec Ideal S1280x2048 .fp8e4m3) (x2 : Vec Ideal S1024x2048 .fp8e4m3) (x3 : Vec Ideal S1x1024 .f32)
    (x1 : Vec Ideal S1280x128 .f32) (p : Fin 1280) (l : Fin 128) (q : Fin 1024) : EReal :=
  Ideal.tanh ((∑ k : Fin 2048, x0 (ix2 p k) * x2 (ix2 q k)) * x1 (ix2 p l) * (x3 (ix2 0 q) * ((1 / 30 : ℝ) : EReal)))

/-- One entry of the capped logits, from the whole arrays. -/
def tval (hq : Vec Ideal S1280x2048 .fp8e4m3) (hs : Vec Ideal S1280 .f32) (w : Vec Ideal S49152x2048 .fp8e4m3)
    (ws : Vec Ideal S49152 .f32) (p : Fin 1280) (v : Fin 49152) : EReal :=
  Ideal.tanh ((∑ k : Fin 2048, hq (ix2 p k) * w (ix2 v k)) * hs (ix1 p) * ws (ix1 v) * ((1 / 30 : ℝ) : EReal))

theorem tval_real (hq : Vec Ideal S1280x2048 .fp8e4m3) (hs : Vec Ideal S1280 .f32) (w : Vec Ideal S49152x2048 .fp8e4m3)
    (ws : Vec Ideal S49152 .f32) (p : Fin 1280) (v : Fin 49152) : ∃ r : ℝ, tval hq hs w ws p v = (r : EReal) := tanh_real _

variable (x0 : Vec Ideal S1280x2048 .fp8e4m3) (x2 : Vec Ideal S1024x2048 .fp8e4m3) (x3 : Vec Ideal S1x1024 .f32)
    (x1 : Vec Ideal S1280x128 .f32)

/-- The eight tiles a grid point stores are the entries of its block. -/
theorem tiles (y : S1280x1024.Idx) : View.canon (s := S1280x1024) (Val := Elt Ideal) (e := .f32)
      [⟨Rect.unit ![0, 896] ![1280, 128] inb_S1280x1024_S1280x128_0_896, k0_pay2 (k0_pay6 x0 x2) (k0_pay7 x3) (k0_pay8 x1)⟩,
        ⟨Rect.unit ![0, 768] ![1280, 128] inb_S1280x1024_S1280x128_0_768,
          k0_pay1 (k0_pay7 x3) (k0_pay18 (k0_pay6 x0 x2) (k0_pay8 x1))⟩,
        ⟨Rect.unit ![0, 640] ![1280, 128] inb_S1280x1024_S1280x128_0_640, k0_pay16 (k0_pay6 x0 x2) (k0_pay7 x3) (k0_pay8 x1)⟩,
        ⟨Rect.unit ![0, 512] ![1280, 128] inb_S1280x1024_S1280x128_0_512, k0_pay15 (k0_pay6 x0 x2) (k0_pay7 x3) (k0_pay8 x1)⟩,
        ⟨Rect.unit ![0, 384] ![1280, 128] inb_S1280x1024_S1280x128_0_384, k0_pay14 (k0_pay6 x0 x2) (k0_pay7 x3) (k0_pay8 x1)⟩,
        ⟨Rect.unit ![0, 256] ![1280, 128] inb_S1280x1024_S1280x128_0_256, k0_pay13 (k0_pay7 x3) (k0_pay12 x0 x2 x1)⟩,
        ⟨Rect.unit ![0, 128] ![1280, 128] inb_S1280x1024_S1280x128_0_128, k0_pay10 x0 x2 x3 x1⟩,
        ⟨Rect.unit ![0, 0] ![1280, 128] inb_S1280x1024_S1280x128_0_0, k0_pay9 x0 x2 x3 x1⟩] y
    = cell x0 x2 x3 x1 (y 0) ⟨(y 1).val % 128, Nat.mod_lt _ (by decide)⟩ (y 1) := by
  canon_tiles x h
  all_goals
    pointwise [k0_pay1, k0_pay2, k0_pay6, k0_pay7, k0_pay8, k0_pay9, k0_pay10, k0_pay12, k0_pay13, k0_pay14, k0_pay15, k0_pay16, k0_pay18, cell]
    rw [inv_cap]
    blk_point []

/-- One grid point adds, in each lane, the exponentials of the eight entries of its block in that lane. -/
theorem step (s : Vec Ideal S1280x128 .f32) (j : S1280x128.Idx) :
    k0_pay3 (k0_pay6 x0 x2) (k0_pay7 x3) (k0_pay8 x1)
          (k0_pay17 (k0_pay6 x0 x2) (k0_pay7 x3) (k0_pay8 x1) (k0_pay11 x0 x2 x3 x1) (k0_pay12 x0 x2 x1))
          (k0_pay18 (k0_pay6 x0 x2) (k0_pay8 x1)) s j
      = s j + ∑ g : Fin 8, Ideal.exp2 (cell x0 x2 x3 x1 (j 0) (j 1)
          ⟨g.val * 128 + (j 1).val, by have h1 : (j 1).val < 128 := (j 1).isLt; omega⟩ * capLog2e) := by
  pointwise [k0_pay3, k0_pay17, k0_pay11, k0_pay12, k0_pay18, k0_pay6, k0_pay7, k0_pay8, k0_pay1, k0_pay2, k0_pay9, k0_pay10,
    k0_pay13, k0_pay14, k0_pay15, k0_pay16]
  rw [Fin.sum_univ_eight, inv_cap, cap_log2e]
  obtain ⟨p, l, rfl⟩ : ∃ p l, j = ix2 p l := ⟨j 0, j 1, by blk_ext⟩
  have key : ∀ q q' : Fin 1024, q.val = q'.val →
      FloatOps.exp2 (F := Ideal) (φ := .f32) (Ideal.tanh ((∑ k : Fin 2048, x0 (ix2 p k) * x2 (ix2 q k)) * x1 (ix2 p l)
        * (x3 (ix2 0 q) * ((1 / 30 : ℝ) : EReal))) * capLog2e) = Ideal.exp2 (cell x0 x2 x3 x1 p l q' * capLog2e) := by
    intro q q' h
    obtain rfl : q = q' := Fin.ext h
    rfl
  refine congrArg₂ HAdd.hAdd rfl (congrArg₂ HAdd.hAdd (congrArg₂ HAdd.hAdd (congrArg₂ HAdd.hAdd (congrArg₂ HAdd.hAdd (congrArg₂ HAdd.hAdd
    (congrArg₂ HAdd.hAdd (congrArg₂ HAdd.hAdd ?_ ?_) ?_) ?_) ?_) ?_) ?_) ?_) <;> exact key _ _ (by dsimp <;> omega)

/-- The last point's read-out of the sums. -/
theorem readout (s : Vec Ideal S1280x128 .f32) (j : S1280x128.Idx) :
    k0_pay4 s j = Ideal.log (∑ l : Fin 128, s (ix2 (j 0) l)) * log2e := by
  pointwise [k0_pay4]
  rw [log2e_eq]

theorem zeros (j : S1280x128.Idx) : k0_pay5 (F := Ideal) j = 0 := by pointwise [k0_pay5]

variable (m : (ℓ : Loc nD τ sig) → Buf (Elt Ideal) ℓ) (c : Dev nD)

theorem idx : ∀ t : Fin cfg0.N, win0_0.index t = ![0, 0] ∧ win0_1.index t = ![0, 0] ∧ win0_2.index t = ![t.val, 0] ∧ win0_3.index t = ![0, t.val]
      ∧ win0_4.index t = ![0, t.val] ∧ win0_5.index t = ![0, 0] :=
  (by decide +kernel : ∀ t : Fin grid0.N, _)

/-- At grid point `t` the entry of the block is the entry of the whole array, `1024 t` columns on. -/
theorem cell_point (t : Fin cfg0.N) (p : Fin 1280) (l : Fin 128) (q : Fin 1024) (p' : Fin 1280) (v : Fin 49152) (hp : p'.val = p.val) (hv : v.val = t.val * 1024 + q.val) :
    cell (iblk m c 0 t) (iblk m c 2 t) (iblk m c 3 t) (iblk m c 1 t) p l q
      = tval (m ((c : Thread nD τ).loc main_arg0)) (m ((c : Thread nD τ).loc main_arg1)) (m ((c : Thread nD τ).loc main_arg2))
          (m ((c : Thread nD τ).loc main_arg3)) p' v := by
  unfold cell tval
  rw [← mul_assoc]
  blk_point [iblk, V, idx t]

/-- The block of capped logits after point `t`, in each of the three cases of the body's conditionals. -/
theorem block_t (t : Fin cfg0.N) (y : S1280x1024.Idx) : (outsAt0 m c t.val t.isLt).1 y
    = cell (iblk m c 0 t) (iblk m c 2 t) (iblk m c 3 t) (iblk m c 1 t) (y 0) ⟨(y 1).val % 128, Nat.mod_lt _ (by decide)⟩ (y 1) := by
  by_cases h0 : t.val % 48 = 0
  · rw [outsAt0_A m c t h0 (by omega)]; frame_out; exact tiles _ _ _ _ y
  · by_cases h1 : t.val % 48 = 47
    · rw [outsAt0_C m c t h0 h1]; frame_out; exact tiles _ _ _ _ y
    · rw [outsAt0_B m c t h0 h1]; frame_out; exact tiles _ _ _ _ y

/-- The first result: the capped logits. -/
theorem final_t : (dats m 0 c).arrAt 4 cfg0.N = fun i : S1280x49152.Idx =>
    tval (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_covers 4 _ (by decide +kernel) fun t hf y => ?_
  blk_simp
  rw [after0_4]
  refine (block_t m c t y).trans (cell_point m c t _ _ _ _ _ ?_ ?_) <;> blk_simp [idx t] <;> omega

/-- The running sums after a point: what it adds to the sums the point before left (zero at the first point). -/
theorem acc_reset (t : Fin cfg0.N) (h0 : t.val % 48 = 0) (j : S1280x128.Idx) : (outsAt0 m c t.val t.isLt).2.2 j
    = 0 + ∑ g : Fin 8, Ideal.exp2 (cell (iblk m c 0 t) (iblk m c 2 t) (iblk m c 3 t) (iblk m c 1 t) (j 0) (j 1)
          ⟨g.val * 128 + (j 1).val, by have h1 : (j 1).val < 128 := (j 1).isLt; omega⟩ * capLog2e) := by
  rw [outsAt0_A m c t h0 (by omega)]; frame_out; rw [step, zeros]

theorem acc_step (t : Fin cfg0.N) (h0 : ¬t.val % 48 = 0) (j : S1280x128.Idx) : (outsAt0 m c t.val t.isLt).2.2 j
    = (outsAt0 m c (t.val - 1) (Nat.lt_of_le_of_lt (Nat.sub_le _ _) t.isLt)).2.2 j
      + ∑ g : Fin 8, Ideal.exp2 (cell (iblk m c 0 t) (iblk m c 2 t) (iblk m c 3 t) (iblk m c 1 t) (j 0) (j 1)
          ⟨g.val * 128 + (j 1).val, by have h1 : (j 1).val < 128 := (j 1).isLt; omega⟩ * capLog2e) := by
  by_cases h1 : t.val % 48 = 47
  · rw [outsAt0_C m c t h0 h1]; frame_out; rw [step]; exact congrArg (· + _) (congrFun (read_unread_whole cc0_scratch0 (Memref.isWhole_whole _) _) j)
  · rw [outsAt0_B m c t h0 h1]; frame_out; rw [step]; exact congrArg (· + _) (congrFun (read_unread_whole cc0_scratch0 (Memref.isWhole_whole _) _) j)

/-- At the last point the second result's block is the read-out of the sums. -/
theorem block_l (t : Fin cfg0.N) (h1 : t.val % 48 = 47) (j : S1280x128.Idx) : (outsAt0 m c t.val t.isLt).2.1 j
    = Ideal.log (∑ l : Fin 128, (outsAt0 m c t.val t.isLt).2.2 (ix2 (j 0) l)) * log2e := by
  rw [outsAt0_C m c t (by omega) h1]; frame_out; rw [readout]

/-- After the last point a lane's sum runs over the points and their eight tiles. -/
theorem acc_last (t : Fin cfg0.N) (h1 : t.val % 48 = 47) (j : S1280x128.Idx) : (outsAt0 m c t.val t.isLt).2.2 j
    = ∑ n : Fin cfg0.N, ∑ g : Fin 8, Ideal.exp2 (cell (iblk m c 0 n) (iblk m c 2 n) (iblk m c 3 n) (iblk m c 1 n) (j 0) (j 1)
          ⟨g.val * 128 + (j 1).val, by have h1 : (j 1).val < 128 := (j 1).isLt; omega⟩ * capLog2e) := by
  have ht : t.val < 48 := lt_of_lt_of_eq t.isLt N_0
  rw [Pipeline.eq_sum_fin_of_reset_step_apply_last (fun n h => (outsAt0 m c n h).2.2) 48 (fun _ => 0) _
    (fun t h j => acc_reset m c t h j) (fun t h j => acc_step m c t h j) (le_of_eq N_0) t ((show t.val + 1 = 48 by omega).trans N_0.symm) j, zero_add]

/-- A sum over lanes, points and the eight tiles of a point is the sum over all columns. -/
theorem sum_blocks {N : ℕ} (hN : N = 48) (E : Fin 128 → Fin N → Fin 8 → EReal) (f : Fin 49152 → EReal)
    (h : ∀ l n g (hv : n.val * 1024 + (g.val * 128 + l.val) < 49152), E l n g = f ⟨n.val * 1024 + (g.val * 128 + l.val), hv⟩) :
    ∑ l, ∑ n, ∑ g, E l n g = ∑ v, f v := by
  subst hN
  rw [Finset.sum_comm]
  refine (Finset.sum_congr rfl fun n _ => ?_).trans (Fin.sum_mul_add_fin 48 1024 f)
  rw [Finset.sum_comm]
  refine Fin.sum_mul_add_congr (f := fun q : Fin 1024 => f ⟨n.val * 1024 + q.val, by omega⟩) fun g l hl => ?_
  exact h l n g _

/-- The second result: the base-2 logarithm of the sum of the exponentials, one copy per lane. -/
theorem final_l : (dats m 0 c).arrAt 5 cfg0.N = fun i : S1280x128.Idx =>
    Ideal.log (∑ v : Fin 49152, Ideal.exp2 (tval (m ((c : Thread nD τ).loc main_arg0)) (m ((c : Thread nD τ).loc main_arg1))
      (m ((c : Thread nD τ).loc main_arg2)) (m ((c : Thread nD τ).loc main_arg3)) (i 0) v * capLog2e)) * log2e := by
  refine (dats m 0 c).arrAt_eq_of_covers 5 _ (by decide +kernel) fun t hf y => ?_
  have h47 := (flush0_5 t).mp hf
  blk_simp
  rw [after0_5]
  refine (block_l m c t h47 y).trans ?_
  refine congrArg (fun x => Ideal.log x * log2e) ?_
  refine (Finset.sum_congr rfl fun l _ => acc_last m c t h47 (ix2 (y 0) l)).trans ?_
  refine sum_blocks N_0 _ _ fun l n g hv => ?_
  refine congrArg (fun x => Ideal.exp2 (x * capLog2e)) ?_
  refine cell_point m c n _ _ _ _ _ ?_ rfl
  blk_simp [idx t]

end Cert.FwdIdeal.Hand
end
end
-- ==== Proof.FwdReference.lean ====
/-
  The reference side of the forward call: the two result arrays, entry by entry, and why the kernel's are the same.
  The reference takes the logarithm of the sum of exponentials the stable way, by the largest term; the capped logits
  are real numbers, so both ways name the same extended real.
-/
module

public import proofs.«01_k».proof.Proof.Gen.FwdRefIdeal.Value
public import proofs.«01_k».proof.Proof.FwdKernel

@[expose] public section

set_option maxRecDepth 16384

noncomputable section

open Idealize.ShloMosaic Idealize.ShloMosaic.TcCoe Idealize.SL.Sem

namespace Cert.FwdRefIdeal.Hand

open Cert.FwdRefIdeal Cert.FwdRefIdeal.Gen Cert.XEnt Cert.FwdIdeal.Hand

theorem log2e_eq : Named.named (F := Ideal) Cert.FwdRefIdeal.κ "log2e" (φ := .f32) 1069066811#32 = log2e :=
  IdealRules.named_const.ideal_named_scalar _ _ _ _ rfl

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
      ∧ win0_4.index t = ![0, 0] ∧ win0_5.index t = ![0, 0] :=
  (by decide +kernel : ∀ t : Fin grid0.N, _)

/-- The reference's capped logits. -/
theorem pay1_at (i : S1280x49152.Idx) : k0_pay1 (iblk m c 0 t0_0) (iblk m c 2 t0_0) (iblk m c 1 t0_0) (iblk m c 3 t0_0) i
    = tval (m ((c : Thread nD τ).loc main_arg0)) (m ((c : Thread nD τ).loc main_arg1)) (m ((c : Thread nD τ).loc main_arg2))
      (m ((c : Thread nD τ).loc main_arg3)) (i 0) (i 1) := by
  pointwise [k0_pay1, tval]
  rw [ofBits_thirty, div_thirty]
  blk_point [iblk, V, idx t0_0]

theorem pay1_ix (p : Fin 1280) (v : Fin 49152) : k0_pay1 (iblk m c 0 t0_0) (iblk m c 2 t0_0) (iblk m c 1 t0_0) (iblk m c 3 t0_0) (ix2 p v)
    = tval (m ((c : Thread nD τ).loc main_arg0)) (m ((c : Thread nD τ).loc main_arg1)) (m ((c : Thread nD τ).loc main_arg2))
      (m ((c : Thread nD τ).loc main_arg3)) p v := pay1_at m c (ix2 p v)

theorem final_t : (dats m 0 c).arrAt 4 cfg0.N = fun i : S1280x49152.Idx =>
    tval (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_after_last 4 t0_0 (by decide +kernel) _ fun j => ?_
  blk_simp
  rw [after0_4]; frame_out
  exact pay1_at m c j

/-- The stable logarithm of a sum of exponentials over the columns, in base 2. -/
def stable (z : Fin 49152 → EReal) : EReal :=
  (Finset.univ.fold max (⊥ : EReal) z + Ideal.log (∑ v, Ideal.exp (z v - Finset.univ.fold max (⊥ : EReal) z))) * log2e

/-- The largest entry of a row. -/
theorem rowmax (z : FVec Ideal S1280x49152 .f32) (p : Fin 1280) :
    multiReduction .maximumf [1] S1280 z 0xFF800000#32 reduces_S1280x49152_S1280 (.inl rfl) rfl (ix1 p)
      = Finset.univ.fold max (⊥ : EReal) (fun v : Fin 49152 => z (ix2 p v)) := by
  refine (Ideal.multiReduction_maximumf_single z _ _ _ _ (ix1 p)).trans ?_
  refine congrArg₂ (fun (b : EReal) (f : Fin 49152 → EReal) => Finset.univ.fold max b f) ofBits_ninf (funext fun v => ?_)
  refine congrArg z (funext fun a => ?_)
  match a with
  | ⟨0, _⟩ => rfl
  | ⟨1, _⟩ => rfl

/-- The sum of a row. -/
theorem rowsum (z : FVec Ideal S1280x49152 .f32) (p : Fin 1280) :
    multiReduction .add [1] S1280 z 0x00000000#32 reduces_S1280x49152_S1280 (.inl rfl) rfl (ix1 p) = ∑ v : Fin 49152, z (ix2 p v) := by
  refine (Ideal.multiReduction_add_single z _ _ _ _ (ix1 p)).trans ?_
  refine congrArg (fun f : Fin 49152 → EReal => ∑ v, f v) (funext fun v => ?_)
  refine congrArg z (funext fun a => ?_)
  match a with
  | ⟨0, _⟩ => rfl
  | ⟨1, _⟩ => rfl

/-- The exponentials of a row's entries less its largest. -/
def inner (z : FVec Ideal S1280x49152 .f32) (M : FVec Ideal S1280 .f32) : FVec Ideal S1280x49152 .f32 :=
  exp (subf z (broadcastTo S1280x49152 (shapeCast S1280x1 M shapeCasts_S1280_S1280x1) broadcasts_S1280x1_S1280x49152))

theorem inner_at (z : FVec Ideal S1280x49152 .f32) (M : FVec Ideal S1280 .f32) (p : Fin 1280) (v : Fin 49152) :
    inner z M (ix2 p v) = Ideal.exp (z (ix2 p v) - M (ix1 p)) := by pointwise [inner]

/-- What is stored from a row's largest entry and sum. -/
def outer (M S : FVec Ideal S1280 .f32) : FVec Ideal S1280x128 .f32 :=
  broadcastTo S1280x128 (shapeCast S1280x1 (mulf (addf (shapeCast S1280x1 M shapeCasts_S1280_S1280x1)
    (log (shapeCast S1280x1 S shapeCasts_S1280_S1280x1))) (broadcast S1280x1 (Named.named (F := Ideal) κ "log2e" 0x3FB8AA3B#32)))
    shapeCasts_S1280x1_S1280x1) broadcasts_S1280x1_S1280x128

theorem outer_at (M S : FVec Ideal S1280 .f32) (p : Fin 1280) (l : Fin 128) :
    outer M S (ix2 p l) = (M (ix1 p) + Ideal.log (S (ix1 p))) * log2e := by
  pointwise [outer]
  rw [log2e_eq]

theorem pay2_at (x0 : Vec Ideal S1280x2048 .fp8e4m3) (x2 : Vec Ideal S49152x2048 .fp8e4m3) (x1 : Vec Ideal S1280x1 .f32)
    (x3 : Vec Ideal S1x49152 .f32) (p : Fin 1280) (l : Fin 128) :
    k0_pay2 x0 x2 x1 x3 (ix2 p l) = stable fun v => 30 * k0_pay1 x0 x2 x1 x3 (ix2 p v) := by
  have h : k0_pay2 x0 x2 x1 x3 = (fun z : FVec Ideal S1280x49152 .f32 => (fun M : FVec Ideal S1280 .f32 => outer M
      (multiReduction .add [1] S1280 (inner z M) 0x00000000#32 reduces_S1280x49152_S1280 (.inl rfl) rfl))
      (multiReduction .maximumf [1] S1280 z 0xFF800000#32 reduces_S1280x49152_S1280 (.inl rfl) rfl))
      (mulf (broadcast S1280x49152 (Scalar.ofBits .f32 0x41F00000#32)) (k0_pay1 x0 x2 x1 x3)) := rfl
  have hz' : ∀ v, mulf (F := Ideal) (φ := .f32) (broadcast S1280x49152 (Scalar.ofBits .f32 0x41F00000#32)) (k0_pay1 x0 x2 x1 x3) (ix2 p v)
      = 30 * k0_pay1 x0 x2 x1 x3 (ix2 p v) := fun v => by rw [← ofBits_thirty]; rfl
  rw [h]
  generalize mulf (F := Ideal) (φ := .f32) (broadcast S1280x49152 (Scalar.ofBits .f32 0x41F00000#32)) (k0_pay1 x0 x2 x1 x3) = z at hz'
  have e : (fun v => z (ix2 p v)) = fun v => 30 * k0_pay1 x0 x2 x1 x3 (ix2 p v) := funext hz'
  rw [← e]
  dsimp only
  rw [outer_at, rowsum]
  simp only [inner_at]
  rw [rowmax]
  rfl

theorem final_l : (dats m 0 c).arrAt 5 cfg0.N = fun i : S1280x128.Idx =>
    Ideal.log (∑ v : Fin 49152, Ideal.exp2 (tval (m ((c : Thread nD τ).loc main_arg0)) (m ((c : Thread nD τ).loc main_arg1))
      (m ((c : Thread nD τ).loc main_arg2)) (m ((c : Thread nD τ).loc main_arg3)) (i 0) v * capLog2e)) * log2e := by
  refine (dats m 0 c).arrAt_eq_of_after_last 5 t0_0 (by decide +kernel) _ fun j => ?_
  blk_simp
  rw [after0_5]; frame_out
  obtain ⟨p, l, rfl⟩ : ∃ (p : Fin 1280) (l : Fin 128), j = ix2 p l := ⟨j 0, j 1, by blk_ext⟩
  rw [pay2_at]
  refine Eq.trans (congrArg stable (funext fun v => congrArg (30 * ·) (pay1_ix m c p v))) ?_
  exact (congrArg (· * log2e) (lse_eq _ (tval_real (m ((c : Thread nD τ).loc main_arg0)) (m ((c : Thread nD τ).loc main_arg1))
    (m ((c : Thread nD τ).loc main_arg2)) (m ((c : Thread nD τ).loc main_arg3)) p))).symm

end Cert.FwdRefIdeal.Hand
end
end
-- ==== Proof.BwdBitsRuns.lean ====
/- The backward call at the hardware values: what its body runs share. -/
module

public import proofs.«01_k».proof.Proof.Gen.Bwd.Launch
public import proofs.«01_k».proof.Proof.Gen.Bwd.Skeleton
public import proofs.«01_k».proof.Proof.Gen.Bwd.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Bwd.Hand

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Bwd`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_1, k0_cond2, e0]
    word_cmp
   : ∀ t : Fin grid0.N, cond0_1 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1280x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x512 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1280x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1280x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1280x512 .bf16 := Memref.whole cc0_scratch0
abbrev scM0_1 : Memref sig .tc .vmem S1280x512 .bf16 := Memref.whole cc0_scratch1
abbrev scM0_2 : Memref sig .tc .vmem S1280x2048 .f32 := Memref.whole cc0_scratch2
abbrev scM0_3 : Memref sig .tc .vmem S1280x128 .f32 := Memref.whole cc0_scratch3
/-- The scratch `arg14` the kernel carries between points, as a view: what it holds is stated through it. -/
abbrev VS0_2 : View sig .tc .vmem S1280x2048 .f32 := scM0_2.view
/-- The scratch `arg15` the kernel carries between points, as a view: what it holds is stated through it. -/
abbrev VS0_3 : View sig .tc .vmem S1280x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Bwd.Hand

end
-- ==== Proof.BwdBitsRunA.lean ====
/- The backward body at the first point, at any values. -/
module

public import proofs.«01_k».proof.Proof.BwdBitsRuns

@[expose] public section

-- membership in a rectangle of production extents (`View.cover_of_tiled`): the elaborator's structural look
-- recurses once per coordinate of the long axes
set_option maxRecDepth 16384

noncomputable section

namespace Cert.Bwd.Hand

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10972000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_A (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) :
    Σ' (LS2 : List (View.Piece (Elt F) S1280x2048 .f32)), Σ' (LS3 : List (View.Piece (Elt F) S1280x128 .f32)), { LT1 : List (View.Piece (Elt F) S1280x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_bwd_grads i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_bwd_grads_eq_skeleton]; unfold cc0_bwd_grads_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]; · iexists _; iexact HS2
    iexists _; iexact HS3

end Cert.Bwd.Hand

end
-- ==== Proof.BwdBitsRunB.lean ====
/- The backward body between, at any values. -/
module

public import proofs.«01_k».proof.Proof.BwdBitsRunA

@[expose] public section

-- membership in a rectangle of production extents (`View.cover_of_tiled`): the elaborator's structural look
-- recurses once per coordinate of the long axes
set_option maxRecDepth 16384

noncomputable section

namespace Cert.Bwd.Hand

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10948000 in
/-- What the body's stores leave in each output's staging memref, as pieces (last first) IN CASE B (`scf.if` 0 not taken, `scf.if` 1 not taken: points 1, 2, … 94: 94 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_B (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) :
    Σ' (LS2 : List (View.Piece (Elt F) S1280x2048 .f32)), Σ' (LS3 : List (View.Piece (Elt F) S1280x128 .f32)), { LT1 : List (View.Piece (Elt F) S1280x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_bwd_grads i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_bwd_grads_eq_skeleton]; unfold cc0_bwd_grads_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]; · iexists _; iexact HS2
    iexists _; iexact HS3

end Cert.Bwd.Hand

end
-- ==== Proof.BwdBitsRunC.lean ====
/- The backward body at the last point, at any values. -/
module

public import proofs.«01_k».proof.Proof.BwdBitsRunB

@[expose] public section

-- membership in a rectangle of production extents (`View.cover_of_tiled`): the elaborator's structural look
-- recurses once per coordinate of the long axes
set_option maxRecDepth 16384

noncomputable section

namespace Cert.Bwd.Hand

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10980000 in
/-- What the body's stores leave in each output's staging memref, as pieces (last first) IN CASE C (`scf.if` 0 not taken, `scf.if` 1 taken: points 95), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_C (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) :
    Σ' (LS2 : List (View.Piece (Elt F) S1280x2048 .f32)), Σ' (LS3 : List (View.Piece (Elt F) S1280x128 .f32)), { LT1 : List (View.Piece (Elt F) S1280x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_bwd_grads i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_bwd_grads_eq_skeleton]; unfold cc0_bwd_grads_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]; · iexists _; iexact HS2
    iexists _; iexact HS3

end Cert.Bwd.Hand

end
-- ==== Proof.BwdBitsFrame.lean ====
/- The backward call terminates and leaves its arguments unchanged, at any values. -/
module

public import proofs.«01_k».proof.Proof.BwdBitsRunC
public import Idealize.ShloMosaic.Lib.Claim

@[expose] public section

-- membership in a rectangle of production extents (`View.cover_of_tiled`): the elaborator's structural look
-- recurses once per coordinate of the long axes
set_option maxRecDepth 16384

noncomputable section

namespace Cert.Bwd.Hand

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: 2 pieces of `S1280x2048` tiling it (Lib/Ring.lean `Piece.tiledL`). -/
theorem scover0_A_2 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (y : S1280x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).1 S1280x2048.size (by sl_kernel_rfl) y

/-- What case A leaves in scratch `arg14`: its pieces read back over junk. -/
def sout0_A_2 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) : Vec F S1280x2048 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).1)

/-- Case A's pieces for scratch `arg15`, which the kernel carries between points, cover it: one of them a store of the WHOLE buffer (Lib/Ring.lean `sl_whole_mem`). -/
theorem scover0_A_3 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (y : S1280x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.1 (by sl_whole_mem) y

/-- What case A leaves in scratch `arg15`: its pieces read back over junk. -/
def sout0_A_3 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) : Vec F S1280x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.1)

/-- Case B's pieces for scratch `arg14`, which the kernel carries between points, cover it: 1 piece of `S1280x2048` tiling it (Lib/Ring.lean `Piece.tiledL`). -/
theorem scover0_B_2 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) (y : S1280x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).1 S1280x2048.size (by sl_kernel_rfl) y

/-- What case B leaves in scratch `arg14`: its pieces read back over junk. -/
def sout0_B_2 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) : Vec F S1280x2048 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).1)

/-- Case B's pieces for scratch `arg15`, which the kernel carries between points, cover it: 40 pieces of `S32x128` tiling it (Lib/Ring.lean `Piece.tiledL`). -/
theorem scover0_B_3 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) (y : S1280x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).2.1 S32x128.size (by sl_kernel_rfl) y

/-- What case B leaves in scratch `arg15`: its pieces read back over junk. -/
def sout0_B_3 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) : Vec F S1280x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).2.1)

/-- Case C's pieces for scratch `arg14`, which the kernel carries between points, cover it: 1 piece of `S1280x2048` tiling it (Lib/Ring.lean `Piece.tiledL`). -/
theorem scover0_C_2 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) (y : S1280x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).1 S1280x2048.size (by sl_kernel_rfl) y

/-- What case C leaves in scratch `arg14`: its pieces read back over junk. -/
def sout0_C_2 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) : Vec F S1280x2048 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).1)

/-- Case C's pieces for scratch `arg15`, which the kernel carries between points, cover it: 40 pieces of `S32x128` tiling it (Lib/Ring.lean `Piece.tiledL`). -/
theorem scover0_C_3 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) (y : S1280x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).2.1 S32x128.size (by sl_kernel_rfl) y

/-- What case C leaves in scratch `arg15`: its pieces read back over junk. -/
def sout0_C_3 (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xs2 : Vec F S1280x2048 .f32) (xs3 : Vec F S1280x128 .f32) : Vec F S1280x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs2 xs3).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x2048 .f32 × Vec F S1280x128 .f32
  | 0, hn => (sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 96 = 0 then
      if h1 : (n + 1) % 96 = 95 then
        False.elim (by have hN : n + 1 < 96 := lt_of_lt_of_eq hn (show cfg0.N = 96 from N_0); omega)
      else
        (sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 96 = 95 then
        (sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)
      else
        (sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 96 = 0) (h1 : ¬t.val % 96 = 95) :
    outsAt0 m c t.val t.isLt = (sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 96 = 0) (h1 : ¬t.val % 96 = 95) :
    outsAt0 m c t.val t.isLt = (sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 96 = 0) (h1 : t.val % 96 = 95) :
    outsAt0 m c t.val t.isLt = (sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).1) ∗ owns (c : Thread nD τ) scM0_3 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).1) ∗ owns (c : Thread nD τ) scM0_3 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).1) ∗ owns (c : Thread nD τ) scM0_3 fullShare ((outsAt0 m c (n - 1) (by omega)).2)) ∗ (∃ r, prngReg c r)) := by
  cases n with
  | zero => exact absurd rfl hz
  | succ n => rfl

/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 96 = 0
  · by_cases h1 : t.val % 96 = 95
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, ⟨%fT1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · exfalso; have hN : t.val < 96 := lt_of_lt_of_eq t.isLt (show cfg0.N = 96 from N_0); omega
  · by_cases h1 : t.val % 96 = 95
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 96 := lt_of_lt_of_eq t.isLt (show cfg0.N = 96 from N_0); omega
      · rw [PhiS_castSucc m c t, PhiS_pos m c _ _ hz]
        rw [outsAt0_C m c t h0 h1]
        unfold sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, ⟨%fT1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 96 := lt_of_lt_of_eq t.isLt (show cfg0.N = 96 from N_0); omega
      · rw [PhiS_castSucc m c t, PhiS_pos m c _ _ hz]
        rw [outsAt0_B m c t h0 h1]
        unfold sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        iintro ⟨H0, H1, H2, H3, H4, H5, H6, H7, H8, H9, H10, HS0, ⟨%fT1, HS1⟩, ⟨%es2, HS2⟩, ⟨%es3, HS3⟩⟩
        isplitl [HS0 HS1 HS2 HS3 Hg]
        · isplitl [HS0 HS1 HS2 HS3]
          · isplitl [HS0]
            · iexact HS0
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Bwd`'s statement (Defs.lean) at any `F` — Proof.lean cites it at `Bits`:
    `theorem Cert.Proof.claim : Cert.Claim := ⟨Cert.Bwd.Gen.facts, fun m ρ _ => Cert.Bwd.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Bwd.Hand

end
-- ==== Proof.BwdConds.lean ====
/- The backward kernel's branch conditions over the grid points, its idle windows, and its staging and scratch memrefs by name. -/
module

public import proofs.«01_k».proof.Proof.Gen.BwdIdeal.Frame
public import proofs.«01_k».proof.Proof.Gen.BwdIdeal.Skeleton
public import proofs.«01_k».proof.Proof.Gen.BwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_1, k0_cond2, e0]
    word_cmp
   : ∀ t : Fin grid0.N, cond0_1 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1280x512 .fp8e5m2 := (Memref.whole cc0_stg6_0 : Memref sig .tc .vmem S1280x512 .fp8e5m2).view
/-- One staging buffer of output window 7, through which its contents are stated (`View.read_writes_of_cover`: the
    choice does not matter). -/
abbrev VO0_7 : View sig .tc .vmem S1280x128 .f32 := (Memref.whole cc0_stg7_0 : Memref sig .tc .vmem S1280x128 .f32).view
/-- One staging buffer of output window 8, through which its contents are stated (`View.read_writes_of_cover`: the
    choice does not matter). -/
abbrev VO0_8 : View sig .tc .vmem S512x2048 .f32 := (Memref.whole cc0_stg8_0 : Memref sig .tc .vmem S512x2048 .f32).view
/-- One staging buffer of output window 9, through which its contents are stated (`View.read_writes_of_cover`: the
    choice does not matter). -/
abbrev VO0_9 : View sig .tc .vmem S1280x2048 .bf16 := (Memref.whole cc0_stg9_0 : Memref sig .tc .vmem S1280x2048 .bf16).view
/-- One staging buffer of output window 10, through which its contents are stated (`View.read_writes_of_cover`: the
    choice does not matter). -/
abbrev VO0_10 : View sig .tc .vmem S1280x128 .f32 := (Memref.whole cc0_stg10_0 : Memref sig .tc .vmem S1280x128 .f32).view
/-- Each window's current staging memref at point `t`, spelled as the pipeline passes it (`bodyAt0`), and its wholeness. -/
abbrev ms0_0 (t : Fin cfg0.N) : Memref sig .tc .vmem S1280x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x512 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1280x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1280x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1280x512 .bf16 := Memref.whole cc0_scratch0
abbrev scM0_1 : Memref sig .tc .vmem S1280x512 .bf16 := Memref.whole cc0_scratch1
abbrev scM0_2 : Memref sig .tc .vmem S1280x2048 .f32 := Memref.whole cc0_scratch2
abbrev scM0_3 : Memref sig .tc .vmem S1280x128 .f32 := Memref.whole cc0_scratch3
/-- The scratch `arg14` the kernel carries between points, as a view: what it holds is stated through it. -/
abbrev VS0_2 : View sig .tc .vmem S1280x2048 .f32 := scM0_2.view
/-- The scratch `arg15` the kernel carries between points, as a view: what it holds is stated through it. -/
abbrev VS0_3 : View sig .tc .vmem S1280x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.BwdIdeal.Hand

end
-- ==== Proof.BwdRunB.lean ====
/- The backward kernel's body run once at a grid point that is neither first nor last. -/
module

public import proofs.«01_k».proof.Proof.BwdConds

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 11020000 in
/-- The pieces the body's stores leave in each buffer it writes, at a grid point that is neither first nor last, with the proof that
    the body, on whole buffers, runs to a continuation holding them.  The scale window's contents `xo7` are whatever they are. -/
noncomputable def runB (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xo7 : Vec F S1280x128 .f32) (xs2 : Vec F S1280x2048 .f32) (xs3 : Vec F S1280x128 .f32) :
    Σ' (L6 : List (View.Piece (Elt F) S1280x512 .fp8e5m2)), Σ' (L7 : List (View.Piece (Elt F) S1280x128 .f32)), Σ' (L8 : List (View.Piece (Elt F) S512x2048 .f32)), Σ' (L9 : List (View.Piece (Elt F) S1280x2048 .bf16)), Σ' (L10 : List (View.Piece (Elt F) S1280x128 .f32)), Σ' (LS2 : List (View.Piece (Elt F) S1280x2048 .f32)), Σ' (LS3 : List (View.Piece (Elt F) S1280x128 .f32)), Σ' (LT0 : List (View.Piece (Elt F) S1280x512 .bf16)), { LT1 : List (View.Piece (Elt F) S1280x512 .bf16) //
      ∀ (xi9 : Vec F S1280x2048 .bf16) (xi10 : Vec F S1280x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_bwd_grads i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], ?_, ?_, ?_, ?_, fun xi9 xi10 E K => ?run⟩
  case run =>
    simp only [cc0_bwd_grads_eq_skeleton]; unfold cc0_bwd_grads_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg10.eq_unread hf9; obtain rfl := harg11.eq_unread hf10; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    iexists _; iexact HS3

end Cert.BwdIdeal.Hand

end
-- ==== Proof.BwdRunA.lean ====
/- The backward kernel's body run once at the first grid point, where the accumulators are set to zero. -/
module

public import proofs.«01_k».proof.Proof.BwdRunB

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 11052000 in
/-- The pieces the body's stores leave in each buffer it writes, at the first grid point, where the accumulators are set to zero, with the proof that
    the body, on whole buffers, runs to a continuation holding them.  The scale window's contents `xo7` are whatever they are. -/
noncomputable def runA (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : cond0_0 i) (hc1 : ¬cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xo7 : Vec F S1280x128 .f32) :
    Σ' (L6 : List (View.Piece (Elt F) S1280x512 .fp8e5m2)), Σ' (L7 : List (View.Piece (Elt F) S1280x128 .f32)), Σ' (L8 : List (View.Piece (Elt F) S512x2048 .f32)), Σ' (L9 : List (View.Piece (Elt F) S1280x2048 .bf16)), Σ' (L10 : List (View.Piece (Elt F) S1280x128 .f32)), Σ' (LS2 : List (View.Piece (Elt F) S1280x2048 .f32)), Σ' (LS3 : List (View.Piece (Elt F) S1280x128 .f32)), Σ' (LT0 : List (View.Piece (Elt F) S1280x512 .bf16)), { LT1 : List (View.Piece (Elt F) S1280x512 .bf16) //
      ∀ (xi9 : Vec F S1280x2048 .bf16) (xi10 : Vec F S1280x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_bwd_grads i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], ?_, ?_, ?_, ?_, fun xi9 xi10 E K => ?run⟩
  case run =>
    simp only [cc0_bwd_grads_eq_skeleton]; unfold cc0_bwd_grads_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    iexists _; iexact HS3

end Cert.BwdIdeal.Hand

end
-- ==== Proof.BwdTile.lean ====
/- The backward kernel's body, tile by tile: what it stores in each 32 by 128 tile, written once for all tiles. -/
module

public import proofs.«01_k».proof.Proof.BwdConds

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The body's work on one tile of 32 rows and 128 lanes: row block `r` (of 40), vocabulary group `g` (of 4). -/

variable (i : grid0.Coords)

theorem inb512 (r : Fin 40) (g : Fin 4) : ∀ a, (![32 * r.val, 128 * g.val] : Fin 2 → Nat) a + S32x128.size a ≤ S1280x512.size a := by
  intro a; fin_cases a
  · show 32 * r.val + 32 ≤ 1280; omega
  · show 128 * g.val + 128 ≤ 512; omega

theorem inb128 (r : Fin 40) : ∀ a, (![32 * r.val, 0] : Fin 2 → Nat) a + S32x128.size a ≤ S1280x128.size a := by
  intro a; fin_cases a
  · show 32 * r.val + 32 ≤ 1280; omega
  · show 0 + 128 ≤ 128; omega

theorem inb1 (g : Fin 4) : ∀ a, (![0, 128 * g.val] : Fin 2 → Nat) a + S1x128.size a ≤ S1x512.size a := by
  intro a; fin_cases a
  · show 0 + 1 ≤ 1; omega
  · show 128 * g.val + 128 ≤ 512; omega

/-- A tile of a block of 512 lanes. -/
abbrev rect512 (r : Fin 40) (g : Fin 4) : Rect S1280x512 := Rect.unit (s := S1280x512) ![32 * r.val, 128 * g.val] S32x128.size (inb512 r g)
/-- A row block of a block of 128 lanes. -/
abbrev rect128 (r : Fin 40) : Rect S1280x128 := Rect.unit (s := S1280x128) ![32 * r.val, 0] S32x128.size (inb128 r)
/-- A group of the row of weight scales. -/
abbrev rect1 (g : Fin 4) : Rect S1x512 := Rect.unit (s := S1x512) ![0, 128 * g.val] S1x128.size (inb1 g)

/-- Where a token's label is lane `l` of group `g` of this block. -/
def hitT (g : Fin 4) (v19 : Vec F S32x128 .i32) : IVec S32x128 1 :=
  cmpi .eq (k0_pay9 i v19) (addi (iota .tc S32x128 32 [1] iota_S32x128_d1_w32) (broadcast S32x128 (BitVec.ofNat 32 (128 * g.val))))

/-- The gradient's codes on a tile, from the tile of capped logits `v27`, the label hits and the row block of log-sum-exps `v17`. -/
def codesT (v27 : Vec F S32x128 .f32) (h : IVec S32x128 1) (v17 : Vec F S32x128 .f32) : FVec F S32x128 .fp8e5m2 :=
  k0_pay17 v27 h (k0_pay12 v17 v27) (FloatOps.ofBits .f32 0x3F800000#32)
/-- The gradient's scale on a tile. -/
def scaleT (v27 : Vec F S32x128 .f32) (h : IVec S32x128 1) (v17 : Vec F S32x128 .f32) : FVec F S32x128 .f32 :=
  k0_pay16 v27 h (k0_pay12 v17 v27) (FloatOps.ofBits .f32 0x3F800000#32)
/-- The quantised gradient on a tile. -/
def gqT (v27 : Vec F S32x128 .f32) (h : IVec S32x128 1) (v17 : Vec F S32x128 .f32) : FVec F S32x128 .f32 :=
  k0_pay19 v27 h (k0_pay12 v17 v27) (FloatOps.ofBits .f32 0x3F800000#32)
/-- The row of scales with group `g`'s lane filled in. -/
def putT (g : Fin 4) (s v26 : FVec F S32x128 .f32) : FVec F S32x128 .f32 :=
  select (cmpi .eq (k0_pay7 i) (broadcast S32x128 (BitVec.ofNat 32 g.val))) s v26

section Blocks
variable (arg1 : Memref sig .tc .vmem S1280x512 .f32) (harg1 : arg1.IsWhole) (arg3 : Memref sig .tc .vmem S1x512 .f32) (harg3 : arg3.IsWhole)
  (arg4 : Memref sig .tc .vmem S1280x128 .f32) (harg4 : arg4.IsWhole) (arg5 : Memref sig .tc .vmem S1280x128 .i32) (harg5 : arg5.IsWhole)
  (arg8 : Memref sig .tc .vmem S1280x128 .f32) (harg8 : arg8.IsWhole) (arg15 : Memref sig .tc .vmem S1280x128 .f32) (harg15 : arg15.IsWhole)
  (x0 : Vec F S1280x512 .f32) (x2 : Vec F S1x512 .f32) (x3 : Vec F S1280x128 .f32) (x4 : Vec F S1280x128 .i32)
  (xo7 xs3 : Vec F S1280x128 .f32) (r : Fin 40) (g : Fin 4)

/-- The tile of capped logits. -/
abbrev tL : Vec F S32x128 .f32 := View.readAt (Elt F) arg1.view (rect512 r g).toLoadRect (harg1.unread x0)
/-- The row block of log-sum-exps. -/
abbrev lseL : Vec F S32x128 .f32 := View.readAt (Elt F) arg4.view (rect128 r).toLoadRect (harg4.unread x3)
/-- The row block of labels. -/
abbrev labL : Vec F S32x128 .i32 := View.readAt (Elt F) arg5.view (rect128 r).toLoadRect (harg5.unread x4)
/-- The group of weight scales. -/
abbrev wsL : Vec F S1x128 .f32 := View.readAt (Elt F) arg3.view (rect1 g).toLoadRect (harg3.unread x2)

/-- The codes of one tile. -/
def codesB : FVec F S32x128 .fp8e5m2 := codesT (tL arg1 harg1 x0 r g) (hitT i g (labL arg5 harg5 x4 r)) (lseL arg4 harg4 x3 r)
/-- The scales of one tile. -/
def scaleB : FVec F S32x128 .f32 := scaleT (tL arg1 harg1 x0 r g) (hitT i g (labL arg5 harg5 x4 r)) (lseL arg4 harg4 x3 r)
/-- The quantised gradient of one tile. -/
def gqB : FVec F S32x128 .f32 := gqT (tL arg1 harg1 x0 r g) (hitT i g (labL arg5 harg5 x4 r)) (lseL arg4 harg4 x3 r)

/-- The stores of the codes, last first. -/
def pieces6 : List (View.Piece (Elt F) S1280x512 .fp8e5m2) :=
  List.ofFn fun k : Fin 160 => ⟨rect512 ⟨39 - k.val / 4, by omega⟩ ⟨3 - k.val % 4, by omega⟩,
    codesB i arg1 harg1 arg4 harg4 arg5 harg5 x0 x3 x4 ⟨39 - k.val / 4, by omega⟩ ⟨3 - k.val % 4, by omega⟩⟩
/-- The stores of the quantised gradient, last first. -/
def piecesG : List (View.Piece (Elt F) S1280x512 .bf16) :=
  List.ofFn fun k : Fin 160 => ⟨rect512 ⟨39 - k.val / 4, by omega⟩ ⟨3 - k.val % 4, by omega⟩,
    k0_pay20 (gqB i arg1 harg1 arg4 harg4 arg5 harg5 x0 x3 x4 ⟨39 - k.val / 4, by omega⟩ ⟨3 - k.val % 4, by omega⟩)⟩
/-- The stores of the quantised gradient times the weight scales, last first. -/
def piecesW : List (View.Piece (Elt F) S1280x512 .bf16) :=
  List.ofFn fun k : Fin 160 => ⟨rect512 ⟨39 - k.val / 4, by omega⟩ ⟨3 - k.val % 4, by omega⟩,
    k0_pay21 (gqB i arg1 harg1 arg4 harg4 arg5 harg5 x0 x3 x4 ⟨39 - k.val / 4, by omega⟩ ⟨3 - k.val % 4, by omega⟩)
      (wsL arg3 harg3 x2 ⟨3 - k.val % 4, by omega⟩)⟩

/-- A row block of scales after the four groups of this block. -/
def srowB (s0 : FVec F S32x128 .f32) : FVec F S32x128 .f32 :=
  putT i 3 (scaleB i arg1 harg1 arg4 harg4 arg5 harg5 x0 x3 x4 r 3) (putT i 2 (scaleB i arg1 harg1 arg4 harg4 arg5 harg5 x0 x3 x4 r 2)
    (putT i 1 (scaleB i arg1 harg1 arg4 harg4 arg5 harg5 x0 x3 x4 r 1) (putT i 0 (scaleB i arg1 harg1 arg4 harg4 arg5 harg5 x0 x3 x4 r 0) s0)))
/-- The stores of the scales, last first, over the contents `xo7`. -/
def pieces7 : List (View.Piece (Elt F) S1280x128 .f32) :=
  List.ofFn fun k : Fin 40 => ⟨rect128 ⟨39 - k.val, by omega⟩,
    srowB i arg1 harg1 arg4 harg4 arg5 harg5 x0 x3 x4 ⟨39 - k.val, by omega⟩
      (k0_pay10 (View.readAt (Elt F) arg8.view (rect128 ⟨39 - k.val, by omega⟩).toLoadRect (harg8.unread xo7)))⟩

/-- A row block of label logits after the four groups of this block, from what it held. -/
def tlabB (s0 : FVec F S32x128 .f32) : FVec F S32x128 .f32 :=
  k0_pay55 (k0_pay14 (k0_pay14 (k0_pay14 (k0_pay14 s0 (tL arg1 harg1 x0 r 0) (hitT i 0 (labL arg5 harg5 x4 r)))
    (tL arg1 harg1 x0 r 1) (hitT i 1 (labL arg5 harg5 x4 r))) (tL arg1 harg1 x0 r 2) (hitT i 2 (labL arg5 harg5 x4 r)))
    (tL arg1 harg1 x0 r 3) (hitT i 3 (labL arg5 harg5 x4 r)))
/-- The stores of the label logits, last first, over the contents `xs3`. -/
def piecesS3 : List (View.Piece (Elt F) S1280x128 .f32) :=
  List.ofFn fun k : Fin 40 => ⟨rect128 ⟨39 - k.val, by omega⟩,
    tlabB i arg1 harg1 arg5 harg5 x0 x4 ⟨39 - k.val, by omega⟩
      (View.readAt (Elt F) arg15.view (rect128 ⟨39 - k.val, by omega⟩).toLoadRect (harg15.unread xs3))⟩

end Blocks

end Cert.BwdIdeal.Hand

end
-- ==== Proof.BwdBlock.lean ====
/- The backward kernel's body on whole blocks, written over the tiles. -/
module

public import proofs.«01_k».proof.Proof.BwdTile

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The body's work on whole blocks: the two products and the accumulated scratch buffers. -/

/-- The whole of a block, as a rectangle. -/
abbrev all512 : Rect S1280x512 := Rect.unit (s := S1280x512) ![0, 0] S1280x512.size inb_S1280x512_S1280x512_0_0
abbrev all2048 : Rect S1280x2048 := Rect.unit (s := S1280x2048) ![0, 0] S1280x2048.size inb_S1280x2048_S1280x2048_0_0
abbrev allW : Rect S512x2048 := Rect.unit (s := S512x2048) ![0, 0] S512x2048.size inb_S512x2048_S512x2048_0_0
abbrev all128 : Rect S1280x128 := Rect.unit (s := S1280x128) ![0, 0] S1280x128.size inb_S1280x128_S1280x128_0_0

variable (i : grid0.Coords)
variable (arg1 : Memref sig .tc .vmem S1280x512 .f32) (harg1 : arg1.IsWhole) (arg2 : Memref sig .tc .vmem S512x2048 .fp8e4m3) (harg2 : arg2.IsWhole)
  (arg3 : Memref sig .tc .vmem S1x512 .f32) (harg3 : arg3.IsWhole)
  (arg4 : Memref sig .tc .vmem S1280x128 .f32) (harg4 : arg4.IsWhole) (arg5 : Memref sig .tc .vmem S1280x128 .i32) (harg5 : arg5.IsWhole)
  (arg6 : Memref sig .tc .vmem S1280x2048 .bf16) (harg6 : arg6.IsWhole)
  (arg12 : Memref sig .tc .vmem S1280x512 .bf16) (arg13 : Memref sig .tc .vmem S1280x512 .bf16)
  (arg14 : Memref sig .tc .vmem S1280x2048 .f32) (harg14 : arg14.IsWhole) (arg15 : Memref sig .tc .vmem S1280x128 .f32) (harg15 : arg15.IsWhole)
  (x0 : Vec F S1280x512 .f32) (x1 : Vec F S512x2048 .fp8e4m3) (x2 : Vec F S1x512 .f32) (x3 : Vec F S1280x128 .f32) (x4 : Vec F S1280x128 .i32)
  (x5 : Vec F S1280x2048 .bf16) (xs2 : Vec F S1280x2048 .f32) (xs3 : Vec F S1280x128 .f32)

/-- The store of the block of weight gradients. -/
def pieces8 : List (View.Piece (Elt F) S512x2048 .f32) :=
  [⟨allW, k0_pay2 (arg12.view.readCov (piecesG i arg1 harg1 arg4 harg4 arg5 harg5 x0 x3 x4) all512.toLoadRect)
    (View.readAt (Elt F) arg6.view all2048.toLoadRect (harg6.unread x5))⟩]

/-- The sum of activation gradients after this block, from what it held. -/
def dxB (s : Vec F S1280x2048 .f32) : FVec F S1280x2048 .f32 :=
  k0_pay1 (k0_pay2027 s (arg13.view.readCov (piecesW i arg1 harg1 arg3 harg3 arg4 harg4 arg5 harg5 x0 x2 x3 x4) all512.toLoadRect)
    (View.readAt (Elt F) arg2.view allW.toLoadRect (harg2.unread x1)))

/-- The store of the sum of activation gradients, over the contents `xs2`. -/
def piecesS2 : List (View.Piece (Elt F) S1280x2048 .f32) :=
  [⟨all2048, dxB i arg1 harg1 arg2 harg2 arg3 harg3 arg4 harg4 arg5 harg5 arg13 x0 x1 x2 x3 x4
    (View.readAt (Elt F) arg14.view all2048.toLoadRect (harg14.unread xs2))⟩]

/-- The clearing of the sum of activation gradients. -/
def zeroS2 : List (View.Piece (Elt F) S1280x2048 .f32) := [⟨all2048, k0_pay5⟩]

/-- The stores of the sum of activation gradients at the first point, where it is cleared first. -/
def firstS2 : List (View.Piece (Elt F) S1280x2048 .f32) :=
  ⟨all2048, dxB i arg1 harg1 arg2 harg2 arg3 harg3 arg4 harg4 arg5 harg5 arg13 x0 x1 x2 x3 x4
    (arg14.view.readCov zeroS2 all2048.toLoadRect)⟩ :: zeroS2

/-- The stores of the label logits of the first `k` row blocks at the first point, where they are cleared first. -/
def firstS3 : Nat → List (View.Piece (Elt F) S1280x128 .f32)
  | 0 => [⟨all128, k0_pay6⟩]
  | k + 1 => ⟨rect128 ⟨k % 40, Nat.mod_lt _ (by decide)⟩, tlabB i arg1 harg1 arg5 harg5 x0 x4 ⟨k % 40, Nat.mod_lt _ (by decide)⟩
      (arg15.view.readCov (firstS3 k) (rect128 ⟨k % 40, Nat.mod_lt _ (by decide)⟩).toLoadRect)⟩ :: firstS3 k

end Cert.BwdIdeal.Hand

end
-- ==== Proof.BwdListA.lean ====
/- What the body stores at the first point, over the tiles. -/
module

public import proofs.«01_k».proof.Proof.BwdRunA
public import proofs.«01_k».proof.Proof.BwdBlock

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : cond0_0 i) (hc1 : ¬cond0_1 i)
  (x0 : Vec F S1280x512 .f32) (x1 : Vec F S512x2048 .fp8e4m3) (x2 : Vec F S1x512 .f32) (x3 : Vec F S1280x128 .f32) (x4 : Vec F S1280x128 .i32) (x5 : Vec F S1280x2048 .bf16) (xo7 : Vec F S1280x128 .f32)

theorem listA_6 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7).1
    = pieces6 i arg1 harg1 arg4 harg4 arg5 harg5 x0 x3 x4 := by sl_kernel_rfl

theorem listA_7 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7).2.1
    = pieces7 i arg1 harg1 arg4 harg4 arg5 harg5 arg8 harg8 x0 x3 x4 xo7 := by sl_kernel_rfl

theorem listA_8 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7).2.2.1
    = pieces8 i arg1 harg1 arg4 harg4 arg5 harg5 arg6 harg6 arg12 x0 x3 x4 x5 := by sl_kernel_rfl

theorem listA_S2 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7).2.2.2.2.2.1
    = firstS2 i arg1 harg1 arg2 harg2 arg3 harg3 arg4 harg4 arg5 harg5 arg13 arg14 x0 x1 x2 x3 x4 := by sl_kernel_rfl

theorem listA_S3 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7).2.2.2.2.2.2.1
    = firstS3 i arg1 harg1 arg5 harg5 arg15 x0 x4 40 := by sl_kernel_rfl

theorem listA_T0 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7).2.2.2.2.2.2.2.1
    = piecesG i arg1 harg1 arg4 harg4 arg5 harg5 x0 x3 x4 := by sl_kernel_rfl

theorem listA_T1 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7).2.2.2.2.2.2.2.2.1
    = piecesW i arg1 harg1 arg3 harg3 arg4 harg4 arg5 harg5 x0 x2 x3 x4 := by sl_kernel_rfl

end Cert.BwdIdeal.Hand

end
-- ==== Proof.BwdListB.lean ====
/- What the body stores at a point between, over the tiles. -/
module

public import proofs.«01_k».proof.Proof.BwdRunB
public import proofs.«01_k».proof.Proof.BwdBlock

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : ¬cond0_1 i)
  (x0 : Vec F S1280x512 .f32) (x1 : Vec F S512x2048 .fp8e4m3) (x2 : Vec F S1x512 .f32) (x3 : Vec F S1280x128 .f32) (x4 : Vec F S1280x128 .i32) (x5 : Vec F S1280x2048 .bf16) (xo7 : Vec F S1280x128 .f32) (xs2 : Vec F S1280x2048 .f32) (xs3 : Vec F S1280x128 .f32)

theorem listB_6 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).1
    = pieces6 i arg1 harg1 arg4 harg4 arg5 harg5 x0 x3 x4 := by sl_kernel_rfl

theorem listB_7 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.1
    = pieces7 i arg1 harg1 arg4 harg4 arg5 harg5 arg8 harg8 x0 x3 x4 xo7 := by sl_kernel_rfl

theorem listB_8 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.1
    = pieces8 i arg1 harg1 arg4 harg4 arg5 harg5 arg6 harg6 arg12 x0 x3 x4 x5 := by sl_kernel_rfl

theorem listB_S2 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.1
    = piecesS2 i arg1 harg1 arg2 harg2 arg3 harg3 arg4 harg4 arg5 harg5 arg13 arg14 harg14 x0 x1 x2 x3 x4 xs2 := by sl_kernel_rfl

theorem listB_S3 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.2.1
    = piecesS3 i arg1 harg1 arg5 harg5 arg15 harg15 x0 x4 xs3 := by sl_kernel_rfl

theorem listB_T0 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.2.2.1
    = piecesG i arg1 harg1 arg4 harg4 arg5 harg5 x0 x3 x4 := by sl_kernel_rfl

theorem listB_T1 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.2.2.2.1
    = piecesW i arg1 harg1 arg3 harg3 arg4 harg4 arg5 harg5 x0 x2 x3 x4 := by sl_kernel_rfl

end Cert.BwdIdeal.Hand

end
-- ==== Proof.BwdRunC.lean ====
/- The backward kernel's body run once at the last grid point, where dX and the loss are written. -/
module

public import proofs.«01_k».proof.Proof.BwdRunA

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 11052000 in
/-- The pieces the body's stores leave in each buffer it writes, at the last grid point, where dX and the loss are written, with the proof that
    the body, on whole buffers, runs to a continuation holding them.  The scale window's contents `xo7` are whatever they are. -/
noncomputable def runC (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : cond0_1 i)
    (x0 : Vec F S1280x512 .f32) (x1 : Vec F S512x2048 .fp8e4m3) (x2 : Vec F S1x512 .f32) (x3 : Vec F S1280x128 .f32) (x4 : Vec F S1280x128 .i32) (x5 : Vec F S1280x2048 .bf16) (xo7 : Vec F S1280x128 .f32) (xs2 : Vec F S1280x2048 .f32) (xs3 : Vec F S1280x128 .f32) :
    Σ' (L6 : List (View.Piece (Elt F) S1280x512 .fp8e5m2)), Σ' (L7 : List (View.Piece (Elt F) S1280x128 .f32)), Σ' (L8 : List (View.Piece (Elt F) S512x2048 .f32)), Σ' (L9 : List (View.Piece (Elt F) S1280x2048 .bf16)), Σ' (L10 : List (View.Piece (Elt F) S1280x128 .f32)), Σ' (LS2 : List (View.Piece (Elt F) S1280x2048 .f32)), Σ' (LS3 : List (View.Piece (Elt F) S1280x128 .f32)), Σ' (LT0 : List (View.Piece (Elt F) S1280x512 .bf16)), { LT1 : List (View.Piece (Elt F) S1280x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_bwd_grads i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, fun E K => ?run⟩
  case run =>
    simp only [cc0_bwd_grads_eq_skeleton]; unfold cc0_bwd_grads_skel
    simp only [k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    iexists _; iexact HS3

end Cert.BwdIdeal.Hand

end
-- ==== Proof.BwdListC.lean ====
/- What the body stores at the last point, over the tiles. -/
module

public import proofs.«01_k».proof.Proof.BwdRunC
public import proofs.«01_k».proof.Proof.BwdBlock

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg1 : Memref sig .tc .vmem S1280x512 .f32) (harg1 : arg1.IsWhole) (arg2 : Memref sig .tc .vmem S512x2048 .fp8e4m3) (harg2 : arg2.IsWhole) (arg3 : Memref sig .tc .vmem S1x512 .f32) (harg3 : arg3.IsWhole) (arg4 : Memref sig .tc .vmem S1280x128 .f32) (harg4 : arg4.IsWhole) (arg5 : Memref sig .tc .vmem S1280x128 .i32) (harg5 : arg5.IsWhole) (arg6 : Memref sig .tc .vmem S1280x2048 .bf16) (harg6 : arg6.IsWhole) (arg7 : Memref sig .tc .vmem S1280x512 .fp8e5m2) (harg7 : arg7.IsWhole) (arg8 : Memref sig .tc .vmem S1280x128 .f32) (harg8 : arg8.IsWhole) (arg9 : Memref sig .tc .vmem S512x2048 .f32) (harg9 : arg9.IsWhole) (arg10 : Memref sig .tc .vmem S1280x2048 .bf16) (harg10 : arg10.IsWhole) (arg11 : Memref sig .tc .vmem S1280x128 .f32) (harg11 : arg11.IsWhole) (arg12 : Memref sig .tc .vmem S1280x512 .bf16) (harg12 : arg12.IsWhole) (arg13 : Memref sig .tc .vmem S1280x512 .bf16) (harg13 : arg13.IsWhole) (arg14 : Memref sig .tc .vmem S1280x2048 .f32) (harg14 : arg14.IsWhole) (arg15 : Memref sig .tc .vmem S1280x128 .f32) (harg15 : arg15.IsWhole) (hc0 : ¬cond0_0 i) (hc1 : cond0_1 i)
  (x0 : Vec F S1280x512 .f32) (x1 : Vec F S512x2048 .fp8e4m3) (x2 : Vec F S1x512 .f32) (x3 : Vec F S1280x128 .f32) (x4 : Vec F S1280x128 .i32) (x5 : Vec F S1280x2048 .bf16) (xo7 : Vec F S1280x128 .f32) (xs2 : Vec F S1280x2048 .f32) (xs3 : Vec F S1280x128 .f32)

theorem listC_6 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).1
    = pieces6 i arg1 harg1 arg4 harg4 arg5 harg5 x0 x3 x4 := by sl_kernel_rfl

theorem listC_7 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.1
    = pieces7 i arg1 harg1 arg4 harg4 arg5 harg5 arg8 harg8 x0 x3 x4 xo7 := by sl_kernel_rfl

theorem listC_8 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.1
    = pieces8 i arg1 harg1 arg4 harg4 arg5 harg5 arg6 harg6 arg12 x0 x3 x4 x5 := by sl_kernel_rfl

theorem listC_S2 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.1
    = piecesS2 i arg1 harg1 arg2 harg2 arg3 harg3 arg4 harg4 arg5 harg5 arg13 arg14 harg14 x0 x1 x2 x3 x4 xs2 := by sl_kernel_rfl

theorem listC_S3 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.2.1
    = piecesS3 i arg1 harg1 arg5 harg5 arg15 harg15 x0 x4 xs3 := by sl_kernel_rfl

theorem listC_T0 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.2.2.1
    = piecesG i arg1 harg1 arg4 harg4 arg5 harg5 x0 x3 x4 := by sl_kernel_rfl

theorem listC_T1 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.2.2.2.2.1
    = piecesW i arg1 harg1 arg3 harg3 arg4 harg4 arg5 harg5 x0 x2 x3 x4 := by sl_kernel_rfl

theorem listC_9 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.1
    = [⟨all2048, k0_pay3 (arg14.view.readCov (piecesS2 i arg1 harg1 arg2 harg2 arg3 harg3 arg4 harg4 arg5 harg5 arg13 arg14 harg14 x0 x1 x2 x3 x4 xs2) all2048.toLoadRect)⟩] := by sl_kernel_rfl

theorem listC_10 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xs2 xs3).2.2.2.2.1
    = [⟨all128, k0_pay4 (arg15.view.readCov (piecesS3 i arg1 harg1 arg5 harg5 arg15 harg15 x0 x4 xs3) all128.toLoadRect) (View.readAt (Elt F) arg4.view all128.toLoadRect (harg4.unread x3))⟩] := by sl_kernel_rfl

end Cert.BwdIdeal.Hand

end
-- ==== Proof.BwdMath.lean ====
/-
  The gradient of the soft-capped cross entropy and its quantisation, without any program: one entry of the gradient, the
  power-of-two scale of a row of 128 entries, and the codes of the row under that scale.
-/
module

public import proofs.«01_k».proof.Proof.Math

@[expose] public section

noncomputable section

namespace Cert.XEnt

open Idealize.ShloMosaic

/-- One entry of the gradient, from the capped logit, the base-two log-sum-exp and whether the entry is the label's. -/
def grad (t l : EReal) (b : BitVec 1) : EReal := (Ideal.exp2 (t * capLog2e - l) - Scalar.select b 1 0) * (1 - t * t)

/-- The largest magnitude of a row of 128 entries. -/
def amax (f : Fin 128 → EReal) : EReal :=
  Finset.fold max (Ideal.ofBits FTy.f32 4286578688#32) (fun x => FloatOps.absf (F := Ideal) (φ := .f32) (f x)) Finset.univ

/-- The exponent of the row's scale, from the largest magnitude over the largest code. -/
def expo (a : EReal) : EReal :=
  if a = 0 then 0 else Ideal.liftRound Int.floor (Ideal.log a * log2e) + 1

/-- The scale of a row. -/
def rowScale (f : Fin 128 → EReal) : EReal := Ideal.exp2 (expo (amax f * Ideal.ofBits FTy.f32 932333861#32))

/-- The code of a row's entry. -/
def rowCode (f : Fin 128 → EReal) (q : Fin 128) : EReal :=
  min (Ideal.ofBits FTy.f32 1197473792#32) (max (Ideal.ofBits FTy.f32 3344957440#32)
    (f q * Ideal.exp2 (0 - expo (amax f * Ideal.ofBits FTy.f32 932333861#32))))

end Cert.XEnt

end
-- ==== Proof.BwdCell.lean ====
/- What the backward kernel's body computes on one tile, entry by entry over the extended reals. -/
module

public import proofs.«01_k».proof.Proof.BwdTile
public import proofs.«01_k».proof.Proof.BwdMath
public import Idealize.ShloMosaic.Lib.Pipeline.ValueKit
public import Idealize.ShloMosaic.Lib.Pipeline.ReadBack

@[expose] public section

set_option maxRecDepth 16384

noncomputable section

namespace Cert.BwdIdeal.Hand

open Cert.BwdIdeal Cert.BwdIdeal.Gen Cert.XEnt
open Idealize.ShloMosaic Idealize.ShloMosaic.TcCoe Idealize.ShloMosaic.Tactic

theorem cap_log2e : Named.named (F := Ideal) Cert.BwdIdeal.κ "cap_log2e" (φ := .f32) 1110253463#32 = capLog2e :=
  IdealRules.named_const.ideal_named_scalar _ _ _ _ rfl
theorem log2e_eq : Named.named (F := Ideal) Cert.BwdIdeal.κ "log2e" (φ := .f32) 1069066811#32 = log2e :=
  IdealRules.named_const.ideal_named_scalar _ _ _ _ rfl
theorem ln2_eq : Named.named (F := Ideal) Cert.BwdIdeal.κ "ln2" (φ := .f32) 1060205080#32 = ln2 :=
  IdealRules.named_const.ideal_named_scalar _ _ _ _ rfl

section Tile
variable (t lse : Vec Ideal S32x128 .f32) (h : IVec S32x128 1) (p : Fin 32) (q : Fin 128)

/-- The row of gradients a tile holds at one of its rows. -/
abbrev gradT (p : Fin 32) (l : Fin 128) : EReal := grad (t (ix2 p l)) (lse (ix2 p l)) (h (ix2 p l))

theorem codesT_at : codesT (F := Ideal) t h lse (ix2 p q) = rowCode (gradT t lse h p) q := by
  pointwise [codesT, k0_pay17, k0_pay15, k0_pay13, k0_pay12, k0_pay8]
  simp only [cap_log2e, log2e_eq]
  rfl
theorem scaleT_at : scaleT (F := Ideal) t h lse (ix2 p q) = rowScale (gradT t lse h p) := by
  pointwise [scaleT, k0_pay16, k0_pay15, k0_pay13, k0_pay12, k0_pay8]
  simp only [cap_log2e, log2e_eq]
  rfl
theorem gqT_mul : gqT (F := Ideal) t h lse (ix2 p q) = (codesT (F := Ideal) t h lse (ix2 p q) * scaleT (F := Ideal) t h lse (ix2 p q) : EReal) := rfl
theorem gqT_at : gqT (F := Ideal) t h lse (ix2 p q) = rowCode (gradT t lse h p) q * rowScale (gradT t lse h p) := by
  rw [gqT_mul, codesT_at, scaleT_at]
theorem pay20_at (v : Vec Ideal S32x128 .f32) : k0_pay20 (F := Ideal) v (ix2 p q) = (v (ix2 p q) : EReal) := by
  pointwise [k0_pay20]
theorem pay21_at (v : Vec Ideal S32x128 .f32) (w : Vec Ideal S1x128 .f32) :
    k0_pay21 (F := Ideal) v w (ix2 p q) = (v (ix2 p q) * w (ix2 0 q) : EReal) := by
  pointwise [k0_pay21]
theorem pay10_at (v : Vec Ideal S32x128 .f32) : k0_pay10 (F := Ideal) v (ix2 p q) = v (ix2 p q) := by
  pointwise [k0_pay10]
theorem pay55_at (v : Vec Ideal S32x128 .f32) : k0_pay55 (F := Ideal) v (ix2 p q) = (v (ix2 p q) : EReal) := by
  pointwise [k0_pay55]
theorem pay14_at (v : Vec Ideal S32x128 .f32) :
    k0_pay14 (F := Ideal) v t h (ix2 p q) = (v (ix2 p q) + Scalar.select (h (ix2 p q)) (t (ix2 p q)) (0 : EReal) : EReal) := by
  pointwise [k0_pay14]

/-- Whether a label is entry `v` of the vocabulary. -/
def hitAt (lab : BitVec 32) (v : Nat) : BitVec 1 := IntOp.cmpi CmpIPredicate.eq lab (BitVec.ofNat 32 v)

theorem hitT_at (i : grid0.Coords) (g : Fin 4) (v : Vec Ideal S32x128 .i32) :
    hitT (F := Ideal) i g v (ix2 p q) = hitAt (v (ix2 p q)) (512 * (i 0).val + (128 * g.val + q.val)) := by
  have e : hitT (F := Ideal) i g v (ix2 p q) = IntOp.cmpi CmpIPredicate.eq (IntOp.subi (v (ix2 p q)) (Scalar.muli (BitVec.ofNat 32 ↑(i 0)) 512#32))
      (IntOp.addi (BitVec.ofNat 32 ↑q) (BitVec.ofNat 32 (128 * ↑g))) := by
    pointwise [hitT, k0_pay9]
  rw [e]
  show BitVec.ofBool ((v (ix2 p q) - (BitVec.ofNat 32 (i 0).val * 512#32)) == (BitVec.ofNat 32 q.val + BitVec.ofNat 32 (128 * g.val)))
    = BitVec.ofBool ((v (ix2 p q) : BitVec 32) == BitVec.ofNat 32 (512 * (i 0).val + (128 * g.val + q.val)))
  have h2 : BitVec.ofNat 32 (512 * (i 0).val + (128 * g.val + q.val))
      = (BitVec.ofNat 32 q.val + BitVec.ofNat 32 (128 * g.val)) + (BitVec.ofNat 32 (i 0).val * 512#32) := by
    rw [show (512#32 : BitVec 32) = BitVec.ofNat 32 512 from rfl, ← BitVec.ofNat_mul, ← BitVec.ofNat_add, ← BitVec.ofNat_add]
    congr 1; omega
  rw [h2]
  congr 1
  rw [Bool.eq_iff_iff, beq_iff_eq, beq_iff_eq]
  exact ⟨fun h => by rw [← h, BitVec.sub_add_cancel], fun h => by rw [h, BitVec.add_sub_cancel]⟩

/-- The first lane of this block's four groups in the row of scales, as the body computes it from the grid coordinate. -/
def laneOff (n : Nat) : BitVec 32 :=
  let a := BitVec.ofNat 32 n
  let d := Scalar.select (Scalar.cmpi CmpIPredicate.eq 32#32 0#32) 1#32 32#32
  let r := Scalar.remsi a d
  Scalar.muli (Scalar.select
    (Scalar.andi (Scalar.xori (Scalar.cmpi CmpIPredicate.slt r 0#32) (Scalar.cmpi CmpIPredicate.slt d 0#32)) (Scalar.cmpi CmpIPredicate.ne r 0#32))
    (Scalar.addi r d) r) 4#32

theorem laneOff_eq : ∀ n : Fin 96, laneOff n.val = BitVec.ofNat 32 (4 * (n.val % 32)) := by decide +kernel

theorem putT_at (i : grid0.Coords) (g : Fin 4) (s v : Vec Ideal S32x128 .f32) :
    putT (F := Ideal) i g s v (ix2 p q) = (if q.val = 4 * ((i 0).val % 32) + g.val then s (ix2 p q) else v (ix2 p q) : EReal) := by
  have e : putT (F := Ideal) i g s v (ix2 p q) = (Scalar.select (IntOp.cmpi CmpIPredicate.eq
      (IntOp.subi (BitVec.ofNat 32 q.val) (laneOff (i 0).val)) (BitVec.ofNat 32 g.val)) (s (ix2 p q)) (v (ix2 p q)) : EReal) := by
    pointwise [putT, k0_pay7]
    rfl
  rw [e, laneOff_eq ⟨(i 0).val, (i 0).isLt⟩]
  have hq := q.isLt
  have hg := g.isLt
  have key : (BitVec.ofNat 32 q.val - BitVec.ofNat 32 (4 * ((i 0).val % 32)) == BitVec.ofNat 32 g.val) = decide (q.val = 4 * ((i 0).val % 32) + g.val) := by
    have h4 : 4 * ((i 0).val % 32) < 128 := by omega
    generalize 4 * ((i 0).val % 32) = o at h4 ⊢
    rw [Bool.eq_iff_iff, beq_iff_eq, decide_eq_true_iff]
    constructor
    · intro h
      have h1 : BitVec.ofNat 32 q.val = BitVec.ofNat 32 (o + g.val) := by
        rw [Nat.add_comm, BitVec.ofNat_add, ← h, BitVec.sub_add_cancel]
      have h2 := congrArg BitVec.toNat h1
      rw [BitVec.toNat_ofNat, BitVec.toNat_ofNat, Nat.mod_eq_of_lt (by omega), Nat.mod_eq_of_lt (by omega)] at h2
      exact h2
    · intro h
      rw [h, Nat.add_comm, BitVec.ofNat_add, BitVec.add_sub_cancel]
  show Scalar.select (BitVec.ofBool (BitVec.ofNat 32 q.val - BitVec.ofNat 32 (4 * ((i 0).val % 32)) == BitVec.ofNat 32 g.val)) _ _ = _
  rw [key]
  by_cases h : q.val = 4 * ((i 0).val % 32) + g.val
  · rw [if_pos h, decide_eq_true h]; rfl
  · rw [if_neg h, decide_eq_false h]; rfl

end Tile

end Cert.BwdIdeal.Hand

end
-- ==== Proof.BwdVal.lean ====
/-
  What the backward kernel's body leaves in its buffers at one grid point, entry by entry over the extended reals, from the
  blocks it reads: the lists of tile stores read back as functions of the index.
-/
module

public import proofs.«01_k».proof.Proof.BwdBlock
public import proofs.«01_k».proof.Proof.BwdCell

@[expose] public section

set_option maxRecDepth 16384

noncomputable section

namespace Cert.BwdIdeal.Hand

open Cert.BwdIdeal Cert.BwdIdeal.Gen Cert.XEnt
open Idealize.ShloMosaic Idealize.ShloMosaic.TcCoe Idealize.ShloMosaic.Tactic

/-! ## Lists of tiles read back -/

/-- A row of a block of 1280 rows, from its row block. -/
abbrev rowOf (r : Fin 40) (p : Fin 32) : Fin 1280 := ⟨32 * r.val + p.val, by omega⟩
/-- A lane of a block of 512 lanes, from its group. -/
abbrev laneOf (g : Fin 4) (q : Fin 128) : Fin 512 := ⟨128 * g.val + q.val, by omega⟩

theorem idx2_eta {a b : Nat} (x : (⟨2, ![a, b]⟩ : Shape).Idx) : x = ix2 (x 0) (x 1) := by
  funext k; fin_cases k <;> rfl

theorem mem512 (r : Fin 40) (g : Fin 4) (y : S1280x512.Idx) (h0 : 32 * r.val ≤ (y 0).val ∧ (y 0).val < 32 * r.val + 32)
    (h1 : 128 * g.val ≤ (y 1).val ∧ (y 1).val < 128 * g.val + 128) : y ∈ (rect512 r g).set :=
  (Rect.mem_set_unit (inb := inb512 r g)).mpr fun a => by fin_cases a <;> assumption

theorem mem128 (r : Fin 40) (y : S1280x128.Idx) (h0 : 32 * r.val ≤ (y 0).val ∧ (y 0).val < 32 * r.val + 32) : y ∈ (rect128 r).set :=
  (Rect.mem_set_unit (inb := inb128 r)).mpr fun a => by
    fin_cases a
    · exact h0
    · exact ⟨Nat.zero_le _, (y 1).isLt⟩

theorem of_mem128 (r : Fin 40) (y : S1280x128.Idx) (h : y ∈ (rect128 r).set) : 32 * r.val ≤ (y 0).val ∧ (y 0).val < 32 * r.val + 32 := by
  have h2 := Rect.mem_set_unit.mp h
  exact h2 (0 : Fin 2)

section Lists
variable {e : EltTy}

theorem cover512 (P : Fin 40 → Fin 4 → S32x128.Idx → Elt Ideal e) (y : S1280x512.Idx) :
    ∃ p ∈ (List.ofFn fun k : Fin 160 => (⟨rect512 ⟨39 - k.val / 4, by omega⟩ ⟨3 - k.val % 4, by omega⟩,
      P ⟨39 - k.val / 4, by omega⟩ ⟨3 - k.val % 4, by omega⟩⟩ : View.Piece (Elt Ideal) S1280x512 e)), y ∈ p.1.set := by
  have h0 : (y 0).val < 1280 := (y 0).isLt
  have h1 : (y 1).val < 512 := (y 1).isLt
  refine ⟨_, List.mem_ofFn.mpr ⟨⟨4 * (39 - (y 0).val / 32) + (3 - (y 1).val / 128), by omega⟩, rfl⟩, ?_⟩
  refine mem512 _ _ y ?_ ?_
  · show 32 * (39 - (4 * (39 - (y 0).val / 32) + (3 - (y 1).val / 128)) / 4) ≤ (y 0).val
      ∧ (y 0).val < 32 * (39 - (4 * (39 - (y 0).val / 32) + (3 - (y 1).val / 128)) / 4) + 32
    omega
  · show 128 * (3 - (4 * (39 - (y 0).val / 32) + (3 - (y 1).val / 128)) % 4) ≤ (y 1).val
      ∧ (y 1).val < 128 * (3 - (4 * (39 - (y 0).val / 32) + (3 - (y 1).val / 128)) % 4) + 128
    omega

theorem canon512 (P : Fin 40 → Fin 4 → S32x128.Idx → Elt Ideal e) (v : S1280x512.Idx → Elt Ideal e)
    (h : ∀ r g p q, P r g (ix2 p q) = v (ix2 (rowOf r p) (laneOf g q))) :
    View.canon (List.ofFn fun k : Fin 160 => (⟨rect512 ⟨39 - k.val / 4, by omega⟩ ⟨3 - k.val % 4, by omega⟩,
      P ⟨39 - k.val / 4, by omega⟩ ⟨3 - k.val % 4, by omega⟩⟩ : View.Piece (Elt Ideal) S1280x512 e)) = v := by
  funext y
  refine View.canon_eq_of_allAt _ y _ (cover512 P y) fun p hp => ?_
  obtain ⟨k, rfl⟩ := List.mem_ofFn.mp hp
  intro x hx
  rw [← hx]
  refine (congrArg _ (idx2_eta x)).trans ((h _ _ (x 0) (x 1)).trans (congrArg v ?_))
  funext a
  apply Fin.ext
  fin_cases a
  · show 32 * (39 - k.val / 4) + (x 0).val = 32 * (39 - k.val / 4) + 1 * (x 0).val; omega
  · show 128 * (3 - k.val % 4) + (x 1).val = 128 * (3 - k.val % 4) + 1 * (x 1).val; omega

theorem cover128 (P : Fin 40 → S32x128.Idx → Elt Ideal e) (y : S1280x128.Idx) :
    ∃ p ∈ (List.ofFn fun k : Fin 40 => (⟨rect128 ⟨39 - k.val, by omega⟩, P ⟨39 - k.val, by omega⟩⟩ : View.Piece (Elt Ideal) S1280x128 e)),
      y ∈ p.1.set := by
  have h0 : (y 0).val < 1280 := (y 0).isLt
  have h1 : (y 1).val < 128 := (y 1).isLt
  refine ⟨_, List.mem_ofFn.mpr ⟨⟨39 - (y 0).val / 32, by omega⟩, rfl⟩, ?_⟩
  refine mem128 _ y ?_
  show 32 * (39 - (39 - (y 0).val / 32)) ≤ (y 0).val ∧ (y 0).val < 32 * (39 - (39 - (y 0).val / 32)) + 32
  omega

theorem canon128 (P : Fin 40 → S32x128.Idx → Elt Ideal e) (v : S1280x128.Idx → Elt Ideal e)
    (h : ∀ r p q, P r (ix2 p q) = v (ix2 (rowOf r p) q)) :
    View.canon (List.ofFn fun k : Fin 40 => (⟨rect128 ⟨39 - k.val, by omega⟩, P ⟨39 - k.val, by omega⟩⟩ : View.Piece (Elt Ideal) S1280x128 e)) = v := by
  funext y
  refine View.canon_eq_of_allAt _ y _ (cover128 P y) fun p hp => ?_
  obtain ⟨k, rfl⟩ := List.mem_ofFn.mp hp
  intro x hx
  rw [← hx]
  refine (congrArg _ (idx2_eta x)).trans ((h _ (x 0) (x 1)).trans (congrArg v ?_))
  funext a
  apply Fin.ext
  fin_cases a
  · show 32 * (39 - k.val) + (x 0).val = 32 * (39 - k.val) + 1 * (x 0).val; omega
  · show (x 1).val = 0 + 1 * (x 1).val; omega

end Lists

/-! ## The tiles' operands -/

section Reads
variable (arg1 : Memref sig .tc .vmem S1280x512 .f32) (harg1 : arg1.IsWhole) (arg3 : Memref sig .tc .vmem S1x512 .f32) (harg3 : arg3.IsWhole)
  (x0 : Vec Ideal S1280x512 .f32) (x2 : Vec Ideal S1x512 .f32) (r : Fin 40) (g : Fin 4) (p : Fin 32) (q : Fin 128)

theorem tL_at : tL (F := Ideal) arg1 harg1 x0 r g (ix2 p q) = x0 (ix2 (rowOf r p) (laneOf g q)) := by
  rw [tL, View.readAt_eq_ld, Memref.IsWhole.read_unread]
  refine congrArg x0 ?_
  funext a; apply Fin.ext; fin_cases a
  · show 32 * r.val + 1 * p.val = 32 * r.val + p.val; omega
  · show 128 * g.val + 1 * q.val = 128 * g.val + q.val; omega

theorem row_at {e : EltTy} (arg : Memref sig .tc .vmem S1280x128 e) (harg : arg.IsWhole) (x : Vec Ideal S1280x128 e) :
    View.readAt (Elt Ideal) arg.view (rect128 r).toLoadRect (harg.unread x) (ix2 p q) = x (ix2 (rowOf r p) q) := by
  rw [View.readAt_eq_ld, Memref.IsWhole.read_unread]
  refine congrArg x ?_
  funext a; apply Fin.ext; fin_cases a
  · show 32 * r.val + 1 * p.val = 32 * r.val + p.val; omega
  · show 0 + 1 * q.val = q.val; omega

theorem wsL_at : wsL (F := Ideal) arg3 harg3 x2 g (ix2 0 q) = x2 (ix2 0 (laneOf g q)) := by
  rw [wsL, View.readAt_eq_ld, Memref.IsWhole.read_unread]
  refine congrArg x2 ?_
  funext a; apply Fin.ext; fin_cases a
  · rfl
  · show 128 * g.val + 1 * q.val = 128 * g.val + q.val; omega

end Reads

/-! ## A block's entries -/

section Forms
variable (j : Nat) (x0 : Vec Ideal S1280x512 .f32) (x1 : Vec Ideal S512x2048 .fp8e4m3) (x2 : Vec Ideal S1x512 .f32) (x3 : Vec Ideal S1280x128 .f32)
  (x4 : Vec Ideal S1280x128 .i32) (x5 : Vec Ideal S1280x2048 .bf16)

/-- A token's gradients over a group of 128 entries of the vocabulary block `j`. -/
def gB (p : Fin 1280) (g : Fin 4) (l : Fin 128) : EReal :=
  grad (x0 (ix2 p (laneOf g l))) (x3 (ix2 p l)) (hitAt (x4 (ix2 p l)) (512 * j + (128 * g.val + l.val)))

/-- The group of a lane, and the lane within its group. -/
abbrev grpOf (q : Fin 512) : Fin 4 := ⟨q.val / 128, by omega⟩
abbrev lanOf (q : Fin 512) : Fin 128 := ⟨q.val % 128, by omega⟩

theorem grpOf_laneOf (g : Fin 4) (q : Fin 128) : grpOf (laneOf g q) = g := Fin.ext (by show (128 * g.val + q.val) / 128 = g.val; omega)
theorem lanOf_laneOf (g : Fin 4) (q : Fin 128) : lanOf (laneOf g q) = q := Fin.ext (by show (128 * g.val + q.val) % 128 = q.val; omega)

/-- The block of codes. -/
def val6 : S1280x512.Idx → EReal := fun y => rowCode (gB j x0 x3 x4 (y 0) (grpOf (y 1))) (lanOf (y 1))
/-- The block's quantised gradient. -/
def valG : S1280x512.Idx → EReal := fun y =>
  rowCode (gB j x0 x3 x4 (y 0) (grpOf (y 1))) (lanOf (y 1)) * rowScale (gB j x0 x3 x4 (y 0) (grpOf (y 1)))
/-- The quantised gradient times the weight scales. -/
def valW : S1280x512.Idx → EReal := fun y => valG j x0 x3 x4 y * x2 (ix2 0 (y 1))
/-- The block of scales over what the buffer held: the block's four lanes are filled in. -/
def val7 (o : S1280x128.Idx → EReal) : S1280x128.Idx → EReal := fun y =>
  if (y 1).val = 4 * (j % 32) + 3 then rowScale (gB j x0 x3 x4 (y 0) 3)
  else if (y 1).val = 4 * (j % 32) + 2 then rowScale (gB j x0 x3 x4 (y 0) 2)
  else if (y 1).val = 4 * (j % 32) + 1 then rowScale (gB j x0 x3 x4 (y 0) 1)
  else if (y 1).val = 4 * (j % 32) + 0 then rowScale (gB j x0 x3 x4 (y 0) 0) else o y
/-- A token's label logit found in a group, else zero. -/
def selB (p : Fin 1280) (g : Fin 4) (l : Fin 128) : EReal :=
  Scalar.select (hitAt (x4 (ix2 p l)) (512 * j + (128 * g.val + l.val))) (x0 (ix2 p (laneOf g l))) 0
/-- The label logits after this block, over what the buffer held. -/
def valT (s : S1280x128.Idx → EReal) : S1280x128.Idx → EReal := fun y =>
  s y + selB j x0 x4 (y 0) 0 (y 1) + selB j x0 x4 (y 0) 1 (y 1) + selB j x0 x4 (y 0) 2 (y 1) + selB j x0 x4 (y 0) 3 (y 1)
/-- The block of weight gradients. -/
def val8 : S512x2048.Idx → EReal := fun y => ∑ p : Fin 1280, valG j x0 x3 x4 (ix2 p (y 0)) * x5 (ix2 p (y 1))
/-- The sum of activation gradients after this block, over what the buffer held. -/
def valX (s : S1280x2048.Idx → EReal) : S1280x2048.Idx → EReal := fun y =>
  s y + ∑ v : Fin 512, valW j x0 x2 x3 x4 (ix2 (y 0) v) * x1 (ix2 v (y 1))

end Forms

section Canon
variable (i : grid0.Coords)
variable (arg1 : Memref sig .tc .vmem S1280x512 .f32) (harg1 : arg1.IsWhole) (arg2 : Memref sig .tc .vmem S512x2048 .fp8e4m3) (harg2 : arg2.IsWhole)
  (arg3 : Memref sig .tc .vmem S1x512 .f32) (harg3 : arg3.IsWhole)
  (arg4 : Memref sig .tc .vmem S1280x128 .f32) (harg4 : arg4.IsWhole) (arg5 : Memref sig .tc .vmem S1280x128 .i32) (harg5 : arg5.IsWhole)
  (arg6 : Memref sig .tc .vmem S1280x2048 .bf16) (harg6 : arg6.IsWhole) (arg8 : Memref sig .tc .vmem S1280x128 .f32) (harg8 : arg8.IsWhole)
  (arg12 : Memref sig .tc .vmem S1280x512 .bf16) (arg13 : Memref sig .tc .vmem S1280x512 .bf16)
  (arg14 : Memref sig .tc .vmem S1280x2048 .f32) (harg14 : arg14.IsWhole) (arg15 : Memref sig .tc .vmem S1280x128 .f32) (harg15 : arg15.IsWhole)
  (x0 : Vec Ideal S1280x512 .f32) (x1 : Vec Ideal S512x2048 .fp8e4m3) (x2 : Vec Ideal S1x512 .f32) (x3 : Vec Ideal S1280x128 .f32)
  (x4 : Vec Ideal S1280x128 .i32) (x5 : Vec Ideal S1280x2048 .bf16) (xo7 : Vec Ideal S1280x128 .f32) (xs2 : Vec Ideal S1280x2048 .f32)
  (xs3 : Vec Ideal S1280x128 .f32)

/-- A tile's row of gradients is the block's. -/
theorem gradT_eq (r : Fin 40) (g : Fin 4) (p : Fin 32) :
    gradT (tL (F := Ideal) arg1 harg1 x0 r g) (lseL (F := Ideal) arg4 harg4 x3 r) (hitT (F := Ideal) i g (labL (F := Ideal) arg5 harg5 x4 r)) p
      = gB (i 0).val x0 x3 x4 (rowOf r p) g := by
  funext l
  rw [gradT, tL_at, hitT_at, lseL, row_at, labL, row_at]
  rfl

theorem canon6 : View.canon (pieces6 (F := Ideal) i arg1 harg1 arg4 harg4 arg5 harg5 x0 x3 x4) = val6 (i 0).val x0 x3 x4 :=
  canon512 (e := .fp8e5m2) (fun r g => codesB (F := Ideal) i arg1 harg1 arg4 harg4 arg5 harg5 x0 x3 x4 r g) _ fun r g p q => by
    rw [codesB, codesT_at, gradT_eq, val6]
    show _ = rowCode (gB (i 0).val x0 x3 x4 (rowOf r p) (grpOf (laneOf g q))) (lanOf (laneOf g q))
    rw [grpOf_laneOf, lanOf_laneOf]

theorem canonG : View.canon (piecesG (F := Ideal) i arg1 harg1 arg4 harg4 arg5 harg5 x0 x3 x4) = valG (i 0).val x0 x3 x4 :=
  canon512 (e := .bf16) (fun r g => k0_pay20 (gqB (F := Ideal) i arg1 harg1 arg4 harg4 arg5 harg5 x0 x3 x4 r g)) _ fun r g p q => by
    rw [pay20_at, gqB, gqT_at, gradT_eq, valG]
    show _ = rowCode (gB (i 0).val x0 x3 x4 (rowOf r p) (grpOf (laneOf g q))) (lanOf (laneOf g q)) * rowScale (gB (i 0).val x0 x3 x4 (rowOf r p) (grpOf (laneOf g q)))
    rw [grpOf_laneOf, lanOf_laneOf]

theorem canonW : View.canon (piecesW (F := Ideal) i arg1 harg1 arg3 harg3 arg4 harg4 arg5 harg5 x0 x2 x3 x4) = valW (i 0).val x0 x2 x3 x4 :=
  canon512 (e := .bf16) (fun r g => k0_pay21 (gqB (F := Ideal) i arg1 harg1 arg4 harg4 arg5 harg5 x0 x3 x4 r g) (wsL (F := Ideal) arg3 harg3 x2 g)) _ fun r g p q => by
    rw [pay21_at, gqB, gqT_at, gradT_eq, wsL_at, valW, valG]
    show _ = rowCode (gB (i 0).val x0 x3 x4 (rowOf r p) (grpOf (laneOf g q))) (lanOf (laneOf g q)) * rowScale (gB (i 0).val x0 x3 x4 (rowOf r p) (grpOf (laneOf g q)))
      * x2 (ix2 0 (laneOf g q))
    rw [grpOf_laneOf, lanOf_laneOf]

theorem canon7 : View.canon (pieces7 (F := Ideal) i arg1 harg1 arg4 harg4 arg5 harg5 arg8 harg8 x0 x3 x4 xo7) = val7 (i 0).val x0 x3 x4 xo7 :=
  canon128 (e := .f32) (fun r => srowB (F := Ideal) i arg1 harg1 arg4 harg4 arg5 harg5 x0 x3 x4 r
      (k0_pay10 (View.readAt (Elt Ideal) arg8.view (rect128 r).toLoadRect (harg8.unread xo7)))) _ fun r p q => by
    rw [srowB, putT_at, putT_at, putT_at, putT_at, pay10_at, row_at]
    simp only [scaleB, scaleT_at, gradT_eq]
    rfl

theorem tlabB_at (r : Fin 40) (s : Vec Ideal S32x128 .f32) (p : Fin 32) (q : Fin 128) :
    tlabB (F := Ideal) i arg1 harg1 arg5 harg5 x0 x4 r s (ix2 p q)
      = (s (ix2 p q) + selB (i 0).val x0 x4 (rowOf r p) 0 q + selB (i 0).val x0 x4 (rowOf r p) 1 q + selB (i 0).val x0 x4 (rowOf r p) 2 q
        + selB (i 0).val x0 x4 (rowOf r p) 3 q : EReal) := by
  rw [tlabB, pay55_at, pay14_at, pay14_at, pay14_at, pay14_at]
  simp only [hitT_at, tL_at, labL, row_at]
  rfl

theorem canonS3 : View.canon (piecesS3 (F := Ideal) i arg1 harg1 arg5 harg5 arg15 harg15 x0 x4 xs3) = valT (i 0).val x0 x4 xs3 :=
  canon128 (e := .f32) (fun r => tlabB (F := Ideal) i arg1 harg1 arg5 harg5 x0 x4 r
      (View.readAt (Elt Ideal) arg15.view (rect128 r).toLoadRect (harg15.unread xs3))) _ fun r p q => by
    rw [tlabB_at, row_at]
    rfl

theorem pay6_at (y : S1280x128.Idx) : k0_pay6 (F := Ideal) y = (0 : EReal) := by
  rw [idx2_eta y]; pointwise [k0_pay6]
theorem pay5_at (y : S1280x2048.Idx) : k0_pay5 (F := Ideal) y = (0 : EReal) := by
  rw [idx2_eta y]; pointwise [k0_pay5]

theorem first3_zero : View.canon (firstS3 (F := Ideal) i arg1 harg1 arg5 harg5 arg15 x0 x4 0) = fun _ => (0 : EReal) := by
  funext y
  refine View.canon_eq_of_allAt (Val := Elt Ideal) (e := .f32) _ y (0 : EReal) ⟨_, List.mem_singleton.mpr rfl, ?_⟩ fun p hp => ?_
  · refine (Rect.mem_set_unit (inb := inb_S1280x128_S1280x128_0_0)).mpr fun a => ?_
    have := (y a).isLt
    fin_cases a
    · exact ⟨Nat.zero_le _, by simpa using (y 0).isLt⟩
    · exact ⟨Nat.zero_le _, by simpa using (y 1).isLt⟩
  · rw [List.mem_singleton.mp hp]
    exact fun x _ => pay6_at x

/-- A row block's index under its rectangle. -/
theorem rect128_emb (r : Fin 40) (p : Fin 32) (q : Fin 128) : (rect128 r).emb (ix2 p q) = ix2 (rowOf r p) q := by
  funext a; apply Fin.ext; fin_cases a
  · show 32 * r.val + 1 * p.val = 32 * r.val + p.val; omega
  · show 0 + 1 * q.val = q.val; omega

/-- A store of a row block read back at one of its entries. -/
theorem canon_row_at (r : Fin 40) (w : S32x128.Idx → Elt Ideal .f32) (L : List (View.Piece (Elt Ideal) S1280x128 .f32)) (p : Fin 32) (q : Fin 128) :
    View.canon (⟨rect128 r, w⟩ :: L) (ix2 (rowOf r p) q) = w (ix2 p q) :=
  (congrArg (View.canon (⟨rect128 r, w⟩ :: L)) (rect128_emb r p q)).symm.trans (View.canon_cons_emb _ _ _ _)

theorem canon_off (r : Fin 40) (w : S32x128.Idx → Elt Ideal .f32) (L : List (View.Piece (Elt Ideal) S1280x128 .f32)) (y : S1280x128.Idx)
    (hn : y ∉ (rect128 r).set) : View.canon (⟨rect128 r, w⟩ :: L) y = View.canon L y :=
  View.canon_cons_of_not_mem (⟨rect128 r, w⟩ : View.Piece (Elt Ideal) S1280x128 .f32) L hn

/-- One row block more. -/
theorem first3_step (r : Fin 40) (L : List (View.Piece (Elt Ideal) S1280x128 .f32))
    (hL : View.canon L = fun y => if (y 0).val < 32 * r.val then valT (i 0).val x0 x4 (fun _ => 0) y else (0 : EReal)) :
    View.canon (⟨rect128 r, tlabB (F := Ideal) i arg1 harg1 arg5 harg5 x0 x4 r (arg15.view.readCov L (rect128 r).toLoadRect)⟩ :: L)
      = fun y => if (y 0).val < 32 * (r.val + 1) then valT (i 0).val x0 x4 (fun _ => 0) y else (0 : EReal) := by
  funext y
  have hy0 : (y 0).val < 1280 := (y 0).isLt
  by_cases hm : 32 * r.val ≤ (y 0).val ∧ (y 0).val < 32 * r.val + 32
  · rw [if_pos (by omega)]
    obtain ⟨p, q, rfl⟩ : ∃ (p : Fin 32) (q : Fin 128), y = ix2 (rowOf r p) q := ⟨⟨(y 0).val - 32 * r.val, by omega⟩, y 1, by
      funext a; apply Fin.ext; fin_cases a
      · show (y 0).val = 32 * r.val + ((y 0).val - 32 * r.val); omega
      · rfl⟩
    have hrd : arg15.view.readCov L (rect128 r).toLoadRect (ix2 p q) = (0 : EReal) := by
      rw [View.readCov_eq_canon', hL]
      refine if_neg ?_
      show ¬ (32 * r.val + 1 * p.val < 32 * r.val)
      omega
    rw [canon_row_at, tlabB_at, hrd]
    rfl
  · rw [canon_off r _ L y fun h => hm (of_mem128 r y h), hL]
    beta_reduce
    by_cases h1 : (y 0).val < 32 * r.val
    · rw [if_pos h1, if_pos (by omega)]
    · rw [if_neg h1, if_neg (by omega)]

/-- At the first point the first `k` row blocks of label logits are this block's, the others are clear. -/
theorem canonFirst3 (k : Nat) (hk : k ≤ 40) : View.canon (firstS3 (F := Ideal) i arg1 harg1 arg5 harg5 arg15 x0 x4 k)
    = fun y => if (y 0).val < 32 * k then valT (i 0).val x0 x4 (fun _ => 0) y else (0 : EReal) := by
  induction k with
  | zero =>
    rw [first3_zero]
    funext y
    exact (if_neg (by omega)).symm
  | succ k ih =>
    have hkk : k % 40 = k := Nat.mod_eq_of_lt (by omega)
    have := first3_step i arg1 harg1 arg5 harg5 arg15 x0 x4 ⟨k % 40, Nat.mod_lt _ (by decide)⟩ (firstS3 i arg1 harg1 arg5 harg5 arg15 x0 x4 k)
      (by rw [ih (by omega)]; simp only [hkk])
    rw [firstS3, this]
    simp only [hkk]

theorem canonFirst3_all : View.canon (firstS3 (F := Ideal) i arg1 harg1 arg5 harg5 arg15 x0 x4 40) = valT (i 0).val x0 x4 (fun _ => 0) := by
  rw [canonFirst3 _ _ _ _ _ _ _ _ 40 le_rfl]
  funext y
  exact if_pos (show (y 0).val < 32 * 40 from (y 0).isLt)

end Canon

end Cert.BwdIdeal.Hand

end
-- ==== Proof.BwdBlk.lean ====
/-
  The backward kernel's two products and its carried sums at one grid point, read back over the extended reals from the blocks
  the point reads.
-/
module

public import proofs.«01_k».proof.Proof.BwdVal
public import Idealize.ShloMosaic.Lib.Pipeline.ReadBack

@[expose] public section

set_option maxRecDepth 16384

noncomputable section

namespace Cert.BwdIdeal.Hand

open Cert.BwdIdeal Cert.BwdIdeal.Gen Cert.XEnt
open Idealize.ShloMosaic Idealize.ShloMosaic.TcCoe Idealize.ShloMosaic.Tactic

/-! ## The payloads -/

theorem pay2_at (g : Vec Ideal S1280x512 .bf16) (h : Vec Ideal S1280x2048 .bf16) (v : Fin 512) (k : Fin 2048) :
    k0_pay2 (F := Ideal) g h (ix2 v k) = (∑ p : Fin 1280, g (ix2 p v) * h (ix2 p k) : EReal) := by
  pointwise [k0_pay2]

theorem payX_at (s : Vec Ideal S1280x2048 .f32) (g : Vec Ideal S1280x512 .bf16) (w : Vec Ideal S512x2048 .fp8e4m3) (p : Fin 1280) (k : Fin 2048) :
    k0_pay1 (k0_pay2027 (F := Ideal) s g w) (ix2 p k) = (s (ix2 p k) + ∑ v : Fin 512, g (ix2 p v) * w (ix2 v k) : EReal) := by
  pointwise [k0_pay1, k0_pay2027]

theorem pay3_at (s : Vec Ideal S1280x2048 .f32) : k0_pay3 (F := Ideal) s = s := by
  funext y; rw [idx2_eta y]; pointwise [k0_pay3]

theorem pay4_at (s l : Vec Ideal S1280x128 .f32) (p : Fin 1280) (q : Fin 128) :
    k0_pay4 (F := Ideal) s l (ix2 p q) = (l (ix2 p q) * ln2 - Ideal.ofBits FTy.f32 1106247680#32 * ∑ k : Fin 128, s (ix2 p k) : EReal) := by
  pointwise [k0_pay4]
  rw [ln2_eq]

/-! ## Whole-block reads -/

/-- A load of a whole buffer reads its contents. -/
theorem read_all {s : Shape} {e : EltTy} (arg : Memref sig .tc .vmem s e) (harg : arg.IsWhole) (x : s.Idx → Elt Ideal e) (off : Fin s.rank → Nat)
    (h : off = fun _ => 0) (inb : ∀ a, off a + s.size a ≤ s.size a) :
    View.readAt (Elt Ideal) arg.view (Rect.unit (s := s) off s.size inb).toLoadRect (harg.unread x) = x := by
  rw [View.readAt_eq_ld, Memref.IsWhole.read_unread]
  subst h
  funext j
  refine congrArg x ?_
  funext a; apply Fin.ext
  show 0 + 1 * (j a).val = (j a).val
  omega

/-- A load of a whole buffer after stores that are known reads what they leave. -/
theorem cov_all {s : Shape} {e : EltTy} (arg : Memref sig .tc .vmem s e) (L : List (View.Piece (Elt Ideal) s e)) (off : Fin s.rank → Nat)
    (h : off = fun _ => 0) (inb : ∀ a, off a + s.size a ≤ s.size a) :
    arg.view.readCov L (Rect.unit (s := s) off s.size inb).toLoadRect = View.canon L := by
  rw [View.readCov_eq_canon']
  subst h
  funext j
  refine congrArg (View.canon L) ?_
  funext a; apply Fin.ext
  show 0 + 1 * (j a).val = (j a).val
  omega

theorem zero2 : (![0, 0] : Fin 2 → Nat) = fun _ => 0 := by funext a; fin_cases a <;> rfl

section Canon
variable (i : grid0.Coords)
variable (arg1 : Memref sig .tc .vmem S1280x512 .f32) (harg1 : arg1.IsWhole) (arg2 : Memref sig .tc .vmem S512x2048 .fp8e4m3) (harg2 : arg2.IsWhole)
  (arg3 : Memref sig .tc .vmem S1x512 .f32) (harg3 : arg3.IsWhole)
  (arg4 : Memref sig .tc .vmem S1280x128 .f32) (harg4 : arg4.IsWhole) (arg5 : Memref sig .tc .vmem S1280x128 .i32) (harg5 : arg5.IsWhole)
  (arg6 : Memref sig .tc .vmem S1280x2048 .bf16) (harg6 : arg6.IsWhole)
  (arg12 : Memref sig .tc .vmem S1280x512 .bf16) (arg13 : Memref sig .tc .vmem S1280x512 .bf16)
  (arg14 : Memref sig .tc .vmem S1280x2048 .f32) (harg14 : arg14.IsWhole) (arg15 : Memref sig .tc .vmem S1280x128 .f32) (harg15 : arg15.IsWhole)
  (x0 : Vec Ideal S1280x512 .f32) (x1 : Vec Ideal S512x2048 .fp8e4m3) (x2 : Vec Ideal S1x512 .f32) (x3 : Vec Ideal S1280x128 .f32)
  (x4 : Vec Ideal S1280x128 .i32) (x5 : Vec Ideal S1280x2048 .bf16) (xs2 : Vec Ideal S1280x2048 .f32) (xs3 : Vec Ideal S1280x128 .f32)

theorem canon8 : View.canon (pieces8 (F := Ideal) i arg1 harg1 arg4 harg4 arg5 harg5 arg6 harg6 arg12 x0 x3 x4 x5) = val8 (i 0).val x0 x3 x4 x5 := by
  rw [pieces8, View.canon_unit_zero zero2, cov_all _ _ _ zero2, canonG, read_all _ _ _ _ zero2]
  funext y
  obtain ⟨p, q, rfl⟩ : ∃ (p : Fin 512) (q : Fin 2048), y = ix2 p q := ⟨y 0, y 1, idx2_eta y⟩
  exact pay2_at _ _ p q

theorem dxB_eq (s : Vec Ideal S1280x2048 .f32) :
    dxB (F := Ideal) i arg1 harg1 arg2 harg2 arg3 harg3 arg4 harg4 arg5 harg5 arg13 x0 x1 x2 x3 x4 s = valX (i 0).val x0 x1 x2 x3 x4 s := by
  rw [dxB, cov_all _ _ _ zero2, canonW, read_all _ _ _ _ zero2]
  funext y
  obtain ⟨p, q, rfl⟩ : ∃ (p : Fin 1280) (q : Fin 2048), y = ix2 p q := ⟨y 0, y 1, idx2_eta y⟩
  exact payX_at _ _ _ p q

theorem canonS2 : View.canon (piecesS2 (F := Ideal) i arg1 harg1 arg2 harg2 arg3 harg3 arg4 harg4 arg5 harg5 arg13 arg14 harg14 x0 x1 x2 x3 x4 xs2)
    = valX (i 0).val x0 x1 x2 x3 x4 xs2 := by
  rw [piecesS2, View.canon_unit_zero zero2, read_all _ _ _ _ zero2, dxB_eq]

theorem canonFirst2 : View.canon (firstS2 (F := Ideal) i arg1 harg1 arg2 harg2 arg3 harg3 arg4 harg4 arg5 harg5 arg13 arg14 x0 x1 x2 x3 x4)
    = valX (i 0).val x0 x1 x2 x3 x4 (fun _ => 0) := by
  rw [firstS2, View.canon_cons_unit_zero zero2, cov_all _ _ _ zero2, zeroS2, View.canon_unit_zero zero2, dxB_eq]
  refine congrArg (valX (i 0).val x0 x1 x2 x3 x4) ?_
  funext y
  exact pay5_at y

/-- The activation gradients the last point writes out: the sums it has just stored. -/
theorem canon9 : View.canon [(⟨all2048, k0_pay3 (arg14.view.readCov (piecesS2 (F := Ideal) i arg1 harg1 arg2 harg2 arg3 harg3 arg4 harg4 arg5 harg5
      arg13 arg14 harg14 x0 x1 x2 x3 x4 xs2) all2048.toLoadRect)⟩ : View.Piece (Elt Ideal) S1280x2048 .bf16)]
    = valX (i 0).val x0 x1 x2 x3 x4 xs2 := by
  rw [View.canon_unit_zero zero2, pay3_at, cov_all _ _ _ zero2, canonS2]

/-- The losses the last point writes out, from the label logits it has just stored. -/
def val10 (x3 s : S1280x128.Idx → EReal) : S1280x128.Idx → EReal := fun y =>
  x3 (ix2 (y 0) (y 1)) * ln2 - Ideal.ofBits FTy.f32 1106247680#32 * ∑ k : Fin 128, s (ix2 (y 0) k)

theorem canon10 : View.canon [(⟨all128, k0_pay4 (arg15.view.readCov (piecesS3 (F := Ideal) i arg1 harg1 arg5 harg5 arg15 harg15 x0 x4 xs3) all128.toLoadRect)
      (View.readAt (Elt Ideal) arg4.view all128.toLoadRect (harg4.unread x3))⟩ : View.Piece (Elt Ideal) S1280x128 .f32)]
    = val10 x3 (valT (i 0).val x0 x4 xs3) := by
  rw [View.canon_unit_zero zero2, cov_all _ _ _ zero2, canonS3, read_all _ _ _ _ zero2]
  funext y
  obtain ⟨p, q, rfl⟩ : ∃ (p : Fin 1280) (q : Fin 128), y = ix2 p q := ⟨y 0, y 1, idx2_eta y⟩
  exact pay4_at _ _ p q

end Canon

/-! ## The stores cover their buffers -/

section Cover
variable (i : grid0.Coords)
variable (arg1 : Memref sig .tc .vmem S1280x512 .f32) (harg1 : arg1.IsWhole) (arg2 : Memref sig .tc .vmem S512x2048 .fp8e4m3) (harg2 : arg2.IsWhole)
  (arg3 : Memref sig .tc .vmem S1x512 .f32) (harg3 : arg3.IsWhole)
  (arg4 : Memref sig .tc .vmem S1280x128 .f32) (harg4 : arg4.IsWhole) (arg5 : Memref sig .tc .vmem S1280x128 .i32) (harg5 : arg5.IsWhole)
  (arg6 : Memref sig .tc .vmem S1280x2048 .bf16) (harg6 : arg6.IsWhole) (arg8 : Memref sig .tc .vmem S1280x128 .f32) (harg8 : arg8.IsWhole)
  (arg12 : Memref sig .tc .vmem S1280x512 .bf16) (arg13 : Memref sig .tc .vmem S1280x512 .bf16)
  (arg14 : Memref sig .tc .vmem S1280x2048 .f32) (harg14 : arg14.IsWhole) (arg15 : Memref sig .tc .vmem S1280x128 .f32) (harg15 : arg15.IsWhole)
  (x0 : Vec Ideal S1280x512 .f32) (x1 : Vec Ideal S512x2048 .fp8e4m3) (x2 : Vec Ideal S1x512 .f32) (x3 : Vec Ideal S1280x128 .f32)
  (x4 : Vec Ideal S1280x128 .i32) (x5 : Vec Ideal S1280x2048 .bf16) (xo7 : Vec Ideal S1280x128 .f32) (xs2 : Vec Ideal S1280x2048 .f32)
  (xs3 : Vec Ideal S1280x128 .f32)

/-- A store of a whole buffer, whatever was stored before it, covers it. -/
theorem cover_head {s : Shape} {e : EltTy} (off : Fin s.rank → Nat) (h : off = fun _ => 0) (inb : ∀ a, off a + s.size a ≤ s.size a) (w : s.Idx → Elt Ideal e)
    (L : List (View.Piece (Elt Ideal) s e)) (y : s.Idx) :
    ∃ p ∈ (⟨Rect.unit (s := s) off s.size inb, w⟩ :: L : List (View.Piece (Elt Ideal) s e)), y ∈ p.1.set := by
  subst h
  refine ⟨_, List.mem_cons_self, (Rect.mem_set_unit (inb := inb)).mpr fun a => ⟨Nat.zero_le _, ?_⟩⟩
  have := (y a).isLt
  omega

attribute [local irreducible] firstS3

theorem coverFirst3 (k : Nat) (y : S1280x128.Idx) : ∃ p ∈ firstS3 (F := Ideal) i arg1 harg1 arg5 harg5 arg15 x0 x4 k, y ∈ p.1.set := by
  induction k with
  | zero => rw [firstS3]; exact cover_head _ zero2 _ _ _ y
  | succ k ih =>
    obtain ⟨p, hp, hy⟩ := ih
    rw [firstS3]
    exact ⟨p, List.mem_cons_of_mem _ hp, hy⟩

variable {n : Dev nD}

theorem left6 (v : View sig .tc .vmem S1280x512 .fp8e5m2) (f) :
    v.read (Elt Ideal) (v.writes (Elt Ideal) f (pieces6 (F := Ideal) i arg1 harg1 arg4 harg4 arg5 harg5 x0 x3 x4)) = val6 (i 0).val x0 x3 x4 :=
  (View.read_writes_eq_canon v f _ (cover512 _)).trans (canon6 i arg1 harg1 arg4 harg4 arg5 harg5 x0 x3 x4)

theorem left7 (v : View sig .tc .vmem S1280x128 .f32) (f) :
    v.read (Elt Ideal) (v.writes (Elt Ideal) f (pieces7 (F := Ideal) i arg1 harg1 arg4 harg4 arg5 harg5 arg8 harg8 x0 x3 x4 xo7))
      = val7 (i 0).val x0 x3 x4 xo7 :=
  (View.read_writes_eq_canon v f _ (cover128 (e := .f32) fun r => srowB (F := Ideal) i arg1 harg1 arg4 harg4 arg5 harg5 x0 x3 x4 r
    (k0_pay10 (View.readAt (Elt Ideal) arg8.view (rect128 r).toLoadRect (harg8.unread xo7))))).trans (canon7 i arg1 harg1 arg4 harg4 arg5 harg5 arg8 harg8 x0 x3 x4 xo7)

theorem left8 (v : View sig .tc .vmem S512x2048 .f32) (f) :
    v.read (Elt Ideal) (v.writes (Elt Ideal) f (pieces8 (F := Ideal) i arg1 harg1 arg4 harg4 arg5 harg5 arg6 harg6 arg12 x0 x3 x4 x5))
      = val8 (i 0).val x0 x3 x4 x5 :=
  (View.read_writes_eq_canon v f _ (cover_head _ zero2 _ _ _)).trans (canon8 i arg1 harg1 arg4 harg4 arg5 harg5 arg6 harg6 arg12 x0 x3 x4 x5)

theorem left9 (v : View sig .tc .vmem S1280x2048 .bf16) (f) :
    v.read (Elt Ideal) (v.writes (Elt Ideal) f [(⟨all2048, k0_pay3 (arg14.view.readCov (piecesS2 (F := Ideal) i arg1 harg1 arg2 harg2 arg3 harg3 arg4 harg4 arg5 harg5
      arg13 arg14 harg14 x0 x1 x2 x3 x4 xs2) all2048.toLoadRect)⟩ : View.Piece (Elt Ideal) S1280x2048 .bf16)])
      = valX (i 0).val x0 x1 x2 x3 x4 xs2 :=
  (View.read_writes_eq_canon v f _ (cover_head _ zero2 _ _ _)).trans
    (canon9 i arg1 harg1 arg2 harg2 arg3 harg3 arg4 harg4 arg5 harg5 arg13 arg14 harg14 x0 x1 x2 x3 x4 xs2)

theorem left10 (v : View sig .tc .vmem S1280x128 .f32) (f) :
    v.read (Elt Ideal) (v.writes (Elt Ideal) f [(⟨all128, k0_pay4 (arg15.view.readCov (piecesS3 (F := Ideal) i arg1 harg1 arg5 harg5 arg15 harg15 x0 x4 xs3) all128.toLoadRect)
      (View.readAt (Elt Ideal) arg4.view all128.toLoadRect (harg4.unread x3))⟩ : View.Piece (Elt Ideal) S1280x128 .f32)])
      = val10 x3 (valT (i 0).val x0 x4 xs3) :=
  (View.read_writes_eq_canon v f _ (cover_head _ zero2 _ _ _)).trans (canon10 i arg1 harg1 arg4 harg4 arg5 harg5 arg15 harg15 x0 x3 x4 xs3)

theorem leftS2 (v : View sig .tc .vmem S1280x2048 .f32) (f) :
    v.read (Elt Ideal) (v.writes (Elt Ideal) f (piecesS2 (F := Ideal) i arg1 harg1 arg2 harg2 arg3 harg3 arg4 harg4 arg5 harg5 arg13 arg14 harg14 x0 x1 x2 x3 x4 xs2))
      = valX (i 0).val x0 x1 x2 x3 x4 xs2 :=
  (View.read_writes_eq_canon v f _ (cover_head _ zero2 _ _ _)).trans
    (canonS2 i arg1 harg1 arg2 harg2 arg3 harg3 arg4 harg4 arg5 harg5 arg13 arg14 harg14 x0 x1 x2 x3 x4 xs2)

theorem leftFirst2 (v : View sig .tc .vmem S1280x2048 .f32) (f) :
    v.read (Elt Ideal) (v.writes (Elt Ideal) f (firstS2 (F := Ideal) i arg1 harg1 arg2 harg2 arg3 harg3 arg4 harg4 arg5 harg5 arg13 arg14 x0 x1 x2 x3 x4))
      = valX (i 0).val x0 x1 x2 x3 x4 (fun _ => 0) :=
  (View.read_writes_eq_canon v f _ (cover_head _ zero2 _ _ _)).trans
    (canonFirst2 i arg1 harg1 arg2 harg2 arg3 harg3 arg4 harg4 arg5 harg5 arg13 arg14 x0 x1 x2 x3 x4)

theorem leftS3 (v : View sig .tc .vmem S1280x128 .f32) (f) :
    v.read (Elt Ideal) (v.writes (Elt Ideal) f (piecesS3 (F := Ideal) i arg1 harg1 arg5 harg5 arg15 harg15 x0 x4 xs3)) = valT (i 0).val x0 x4 xs3 :=
  (View.read_writes_eq_canon v f _ (cover128 (e := .f32) fun r => tlabB (F := Ideal) i arg1 harg1 arg5 harg5 x0 x4 r
    (View.readAt (Elt Ideal) arg15.view (rect128 r).toLoadRect (harg15.unread xs3)))).trans (canonS3 i arg1 harg1 arg5 harg5 arg15 harg15 x0 x4 xs3)

theorem leftFirst3 (v : View sig .tc .vmem S1280x128 .f32) (f) :
    v.read (Elt Ideal) (v.writes (Elt Ideal) f (firstS3 (F := Ideal) i arg1 harg1 arg5 harg5 arg15 x0 x4 40)) = valT (i 0).val x0 x4 (fun _ => 0) :=
  (View.read_writes_eq_canon v f _ (coverFirst3 i arg1 harg1 arg5 harg5 arg15 x0 x4 40)).trans (canonFirst3_all i arg1 harg1 arg5 harg5 arg15 x0 x4)

end Cover

end Cert.BwdIdeal.Hand

end
-- ==== Proof.BwdDat.lean ====
/-
  The backward call's proof data over the extended reals: what each buffer holds after every grid point.  Codes, weight gradients,
  activation gradients and losses are named exactly.  The block of scales stays in its buffer for 32 points, each filling four of its
  128 lanes, and holds anything before the first of them: it is held to the lanes filled so far.
-/
module

public import proofs.«01_k».proof.Proof.BwdListA
public import proofs.«01_k».proof.Proof.BwdListB
public import proofs.«01_k».proof.Proof.BwdListC
public import proofs.«01_k».proof.Proof.BwdBlk
public import Idealize.ShloMosaic.Lib.Claim
public import Idealize.ShloMosaic.Lib.Pipeline.DatRel

@[expose] public section

set_option maxRecDepth 16384

noncomputable section

namespace Cert.BwdIdeal.Hand

open Cert.BwdIdeal Cert.BwdIdeal.Gen Cert.XEnt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg) (c : Dev nD)

/-! ## What the buffers hold after each point -/

theorem coord_val (t : Fin cfg0.N) : (grid0.coords t 0).val = t.val := by
  have ht : t.val < 96 := Nat.lt_of_lt_of_eq t.isLt N_0
  rw [show (grid0.coords t 0).val = t.val / 1 % 96 from Pipeline.Grid.coords_val t 0 (by decide) rfl]
  omega

/-- The sum of activation gradients after point `n`. -/
def accX : (n : ℕ) → n < cfg0.N → Vec Ideal S1280x2048 .f32
  | 0, h => valX 0 (iblk m c 0 ⟨0, h⟩) (iblk m c 1 ⟨0, h⟩) (iblk m c 2 ⟨0, h⟩) (iblk m c 3 ⟨0, h⟩) (iblk m c 4 ⟨0, h⟩) (fun _ => 0)
  | n + 1, h => valX (n + 1) (iblk m c 0 ⟨n + 1, h⟩) (iblk m c 1 ⟨n + 1, h⟩) (iblk m c 2 ⟨n + 1, h⟩) (iblk m c 3 ⟨n + 1, h⟩) (iblk m c 4 ⟨n + 1, h⟩)
      (accX n (Nat.lt_of_succ_lt h))

/-- The label logits found up to point `n`. -/
def accT : (n : ℕ) → n < cfg0.N → Vec Ideal S1280x128 .f32
  | 0, h => valT 0 (iblk m c 0 ⟨0, h⟩) (iblk m c 4 ⟨0, h⟩) (fun _ => 0)
  | n + 1, h => valT (n + 1) (iblk m c 0 ⟨n + 1, h⟩) (iblk m c 4 ⟨n + 1, h⟩) (accT n (Nat.lt_of_succ_lt h))

theorem accX_first (t : Fin cfg0.N) (hz : t.val = 0) : accX m c t.val t.isLt
    = valX t.val (iblk m c 0 t) (iblk m c 1 t) (iblk m c 2 t) (iblk m c 3 t) (iblk m c 4 t) (fun _ => 0) := by
  obtain ⟨n, hn⟩ := t
  obtain rfl : n = 0 := hz
  rfl
theorem accX_next (t : Fin cfg0.N) (hz : t.val ≠ 0) : accX m c t.val t.isLt
    = valX t.val (iblk m c 0 t) (iblk m c 1 t) (iblk m c 2 t) (iblk m c 3 t) (iblk m c 4 t)
        (accX m c (t.val - 1) (Nat.lt_of_le_of_lt (Nat.sub_le _ _) t.isLt)) := by
  obtain ⟨n, hn⟩ := t
  cases n with
  | zero => exact absurd rfl hz
  | succ n => rfl
theorem accT_first (t : Fin cfg0.N) (hz : t.val = 0) : accT m c t.val t.isLt = valT t.val (iblk m c 0 t) (iblk m c 4 t) (fun _ => 0) := by
  obtain ⟨n, hn⟩ := t
  obtain rfl : n = 0 := hz
  rfl
theorem accT_next (t : Fin cfg0.N) (hz : t.val ≠ 0) : accT m c t.val t.isLt
    = valT t.val (iblk m c 0 t) (iblk m c 4 t) (accT m c (t.val - 1) (Nat.lt_of_le_of_lt (Nat.sub_le _ _) t.isLt)) := by
  obtain ⟨n, hn⟩ := t
  cases n with
  | zero => exact absurd rfl hz
  | succ n => rfl

/-- The point that fills lane `q` of the block of scales in its buffer at point `t`. -/
def scalPoint (t : Fin cfg0.N) (q : Fin 128) : Fin cfg0.N :=
  ⟨32 * (t.val / 32) + q.val / 4, by have ht : t.val < 96 := Nat.lt_of_lt_of_eq t.isLt N_0; have : cfg0.N = 96 := N_0; omega⟩

/-- The scale of token `p`'s group `g` at point `u`. -/
def scal (u : Fin cfg0.N) (p : Fin 1280) (g : Fin 4) : EReal := rowScale (gB u.val (iblk m c 0 u) (iblk m c 3 u) (iblk m c 4 u) p g)

/-- The block of scales after point `t`: the lanes filled so far hold their scales. -/
def scalOk (t : Fin cfg0.N) (X : S1280x128.Idx → EReal) : Prop :=
  ∀ (p : Fin 1280) (q : Fin 128), q.val < 4 * (t.val % 32) + 4 → X (ix2 p q) = scal m c (scalPoint t q) p ⟨q.val % 4, Nat.mod_lt _ (by decide)⟩

theorem scalOk_step (t : Fin cfg0.N) (o : S1280x128.Idx → EReal)
    (ho : t.val % 32 ≠ 0 → scalOk m c ⟨t.val - 1, Nat.lt_of_le_of_lt (Nat.sub_le _ _) t.isLt⟩ o) :
    scalOk m c t (val7 t.val (iblk m c 0 t) (iblk m c 3 t) (iblk m c 4 t) o) := by
  intro p q hq
  have here : ∀ k : Fin 4, q.val = 4 * (t.val % 32) + k.val →
      rowScale (gB t.val (iblk m c 0 t) (iblk m c 3 t) (iblk m c 4 t) p k) = scal m c (scalPoint t q) p ⟨q.val % 4, Nat.mod_lt _ (by decide)⟩ := by
    intro k hk
    rw [show scalPoint t q = t from Fin.ext (by show 32 * (t.val / 32) + q.val / 4 = t.val; omega),
      show (⟨q.val % 4, Nat.mod_lt _ (by decide)⟩ : Fin 4) = k from Fin.ext (by show q.val % 4 = k.val; omega)]
    rfl
  show (if q.val = 4 * (t.val % 32) + 3 then _ else if q.val = 4 * (t.val % 32) + 2 then _ else if q.val = 4 * (t.val % 32) + 1 then _
    else if q.val = 4 * (t.val % 32) + 0 then _ else _) = _
  by_cases h3 : q.val = 4 * (t.val % 32) + 3
  · rw [if_pos h3]; exact here 3 h3
  rw [if_neg h3]
  by_cases h2 : q.val = 4 * (t.val % 32) + 2
  · rw [if_pos h2]; exact here 2 h2
  rw [if_neg h2]
  by_cases h1 : q.val = 4 * (t.val % 32) + 1
  · rw [if_pos h1]; exact here 1 h1
  rw [if_neg h1]
  by_cases h0 : q.val = 4 * (t.val % 32) + 0
  · rw [if_pos h0]; exact here 0 h0
  rw [if_neg h0]
  have ht : t.val % 32 ≠ 0 := by omega
  rw [ho ht p q (by show q.val < 4 * ((t.val - 1) % 32) + 4; omega)]
  rw [show scalPoint ⟨t.val - 1, Nat.lt_of_le_of_lt (Nat.sub_le _ _) t.isLt⟩ q = scalPoint t q from
    Fin.ext (by show 32 * ((t.val - 1) / 32) + q.val / 4 = 32 * (t.val / 32) + q.val / 4; omega)]

/-! ## The pipeline's proof data -/

/-- The region's invariant before position `n`: the sums carried between points at what the point before left. -/
def PhiS : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (accX m c n hn) ∗ owns (c : Thread nD τ) scM0_3 fullShare (accT m c n hn)) ∗ (∃ r, prngReg c r))

theorem PhiS_zero (n : ℕ) (h : n ≤ cfg0.N) (hz : n = 0) : PhiS m c n h = Pipeline.ΦA spec0 c := by
  subst hz; rfl

theorem PhiS_succ (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare (accX m c n hn) ∗ owns (c : Thread nD τ) scM0_3 fullShare (accT m c n hn)) ∗ (∃ r, prngReg c r)) := rfl

theorem PhiS_pos (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (accX m c (n - 1) (by omega)) ∗ owns (c : Thread nD τ) scM0_3 fullShare (accT m c (n - 1) (by omega))) ∗ (∃ r, prngReg c r)) := by
  cases n with
  | zero => exact absurd rfl hz
  | succ n => rfl

/-- The proof data: each input's buffer at its block, each output's at what the body leaves there (windows 9 and 10 are written at the
    last point; window 7 is held to a predicate, `rel`). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => val6 t.val (iblk m c 0 t) (iblk m c 3 t) (iblk m c 4 t)
    | ⟨7, h⟩ => Pipeline.Dat.unnamed (cfg := cfg0) ⟨7, h⟩ t
    | ⟨8, _⟩ => val8 t.val (iblk m c 0 t) (iblk m c 3 t) (iblk m c 4 t) (iblk m c 5 t)
    | ⟨9, _⟩ => accX m c t.val t.isLt
    | ⟨10, _⟩ => val10 (iblk m c 3 t) (accT m c t.val t.isLt)
  Φ t := PhiS m c t.val (Nat.le_of_lt_succ t.isLt)
  q _ := fullShare
  owed _ := 0

/-- The window held to a predicate. -/
def marked : Fin cfg0.W → Bool := fun w => w.val == 7

/-- What the body leaves in the marked window at each point. -/
def rel : (w : Fin cfg0.W) → Fin cfg0.N → ((cfg0.win w).block.Idx → Elt Ideal (cfg0.win w).elt) → Prop
  | ⟨7, _⟩ => fun t X => scalOk m c t X
  | ⟨_, _⟩ => fun _ _ => True

theorem A_eq (c : Dev nD) (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = val6 t.val (iblk m c 0 t) (iblk m c 3 t) (iblk m c 4 t) := by dsimp only [dats]
theorem after0_8 (c : Dev nD) (t : Fin cfg0.N) : (dats m 0 c).after 8 t = val8 t.val (iblk m c 0 t) (iblk m c 3 t) (iblk m c 4 t) (iblk m c 5 t) := by dsimp only [dats]
theorem after0_9 (c : Dev nD) (t : Fin cfg0.N) : (dats m 0 c).after 9 t = accX m c t.val t.isLt := by dsimp only [dats]
theorem after0_10 (c : Dev nD) (t : Fin cfg0.N) : (dats m 0 c).after 10 t = val10 (iblk m c 3 t) (accT m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem fetch0_7 : ∀ t : Fin cfg0.N, (cfg0.win 7).fetch t = false := by decide +kernel

/-- What the body finds in the block of scales: past the first of a block's 32 points, what the point before left. -/
theorem finds7 (t : Fin cfg0.N) (Y) (hY : ((dats m 0 c).toRRel marked (rel m c)).Finds 7 t Y) (ht : t.val % 32 ≠ 0) :
    scalOk m c ⟨t.val - 1, Nat.lt_of_le_of_lt (Nat.sub_le _ _) t.isLt⟩ Y := by
  rcases (((dats m 0 c).toRRel marked (rel m c)).finds_of_pos (fetch0_7 t) (by omega) Y).mp hY with h | h
  · have := (flush0_7 _).mp h
    exfalso
    have h2 : (t.val - 1) % 32 = 31 := this
    omega
  · exact (dats m 0 c).toRRel_leaves (w := 7) rfl h

/-! ## The body obligation -/

/-- What the body is called with at point `t`, the windows one by one, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel marked (rel m c)).Finds 7 t Y⌝ ∗ owns (c : Thread nD τ) (ms0_7 t) fullShare Y)
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ X, ⌜scalOk m c t X⌝ ∗ owns (c : Thread nD τ) (ms0_7 t) fullShare X)
    ∗ (dats m 0 c).leavesExact 8 t
    ∗ (dats m 0 c).leavesExact 9 t
    ∗ (dats m 0 c).leavesExact 10 t)

section Leaves
variable (t : Fin cfg0.N)
theorem leaves0_0 : (dats m 0 c).leavesExact 0 t = owns (c : Thread nD τ) (ms0_0 t) fullShare ((dats m 0 c).after 0 t) := by
  unfold Dat.leavesExact; rw [liveAt0_0 t]
theorem leaves0_1 : (dats m 0 c).leavesExact 1 t = owns (c : Thread nD τ) (ms0_1 t) fullShare ((dats m 0 c).after 1 t) := by
  unfold Dat.leavesExact; rw [liveAt0_1 t]
theorem leaves0_2 : (dats m 0 c).leavesExact 2 t = owns (c : Thread nD τ) (ms0_2 t) fullShare ((dats m 0 c).after 2 t) := by
  unfold Dat.leavesExact; rw [liveAt0_2 t]
theorem leaves0_3 : (dats m 0 c).leavesExact 3 t = owns (c : Thread nD τ) (ms0_3 t) fullShare ((dats m 0 c).after 3 t) := by
  unfold Dat.leavesExact; rw [liveAt0_3 t]
theorem leaves0_4 : (dats m 0 c).leavesExact 4 t = owns (c : Thread nD τ) (ms0_4 t) fullShare ((dats m 0 c).after 4 t) := by
  unfold Dat.leavesExact; rw [liveAt0_4 t]
theorem leaves0_5 : (dats m 0 c).leavesExact 5 t = owns (c : Thread nD τ) (ms0_5 t) fullShare ((dats m 0 c).after 5 t) := by
  unfold Dat.leavesExact; rw [liveAt0_5 t]
theorem leaves0_6 : (dats m 0 c).leavesExact 6 t = owns (c : Thread nD τ) (ms0_6 t) fullShare ((dats m 0 c).after 6 t) := by
  unfold Dat.leavesExact; rw [liveAt0_6 t]
theorem leaves0_8 : (dats m 0 c).leavesExact 8 t = owns (c : Thread nD τ) (ms0_8 t) fullShare ((dats m 0 c).after 8 t) := by
  unfold Dat.leavesExact; rw [liveAt0_8 t]
end Leaves

set_option maxHeartbeats 14400000 in
/-- The body at the first point. -/
theorem sound_first (t : Fin cfg0.N) (h0 : t.val % 96 = 0) (h1 : ¬t.val % 96 = 95) :
    bodyPre m c t ⊢ wp frame (wpE (defs₀ (F := Ideal)) Variants.none c none) Set.univ (bodyAt0 t) (fun _ => bodyPost m c t) := by
  unfold bodyPre bodyPost bodyAt0
  have hN : t.val < 96 := lt_of_lt_of_eq t.isLt (show cfg0.N = 96 from N_0)
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_8]
  rw [after0_0, after0_1, after0_2, after0_3, after0_4, after0_5, after0_6, after0_8]
  rw [(dats m 0 c).leavesExact_idle 9 t (idleAt0_9_A t ((hcond0_0 t).mpr h0) (fun h => h1 ((hcond0_1 t).mp h))) (noFlush0_9_A t ((hcond0_0 t).mpr h0) (fun h => h1 ((hcond0_1 t).mp h))),
    (dats m 0 c).leavesExact_idle 10 t (idleAt0_10_A t ((hcond0_0 t).mpr h0) (fun h => h1 ((hcond0_1 t).mp h))) (noFlush0_10_A t ((hcond0_0 t).mpr h0) (fun h => h1 ((hcond0_1 t).mp h)))]
  have hz : t.val = 0 := by omega
  rw [PhiS_castSucc m c t, PhiS_zero m c _ _ hz, PhiA0_eq, accX_first m c t hz, accT_first m c t hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%d8, H8⟩, ⟨%d9, H9⟩, ⟨%d10, H10⟩⟩
  iapply ((runA c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) Y7).2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, H9, H10, ⟨%s0, HS0⟩, ⟨%s1, HS1⟩, ⟨%s2, HS2⟩, ⟨%s3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · unfold owns; iexists _; isplitr
        swap; · iexact HS2
        ipureintro; rw [listA_S2, leftFirst2, coord_val]
      unfold owns; iexists _; isplitr
      swap; · iexact HS3
      ipureintro; rw [listA_S3, leftFirst3, coord_val]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [listA_6, left6, coord_val]
  isplitl [H7]
  · iexists (val7 t.val (iblk m c 0 t) (iblk m c 3 t) (iblk m c 4 t) Y7); isplitr
    · ipureintro; exact scalOk_step m c t Y7 (finds7 m c t Y7 hY7)
    unfold owns; iexists _; isplitr
    swap; · iexact H7
    ipureintro; rw [listA_7, left7, coord_val]
  isplitl [H8]
  · unfold owns; iexists _; isplitr
    swap; · iexact H8
    ipureintro; rw [listA_8, left8, coord_val]
  isplitl [H9]; · iexists _; iexact H9
  iexists _; iexact H10

set_option maxHeartbeats 14400000 in
/-- The body at the middle points. -/
theorem sound_middle (t : Fin cfg0.N) (h0 : ¬t.val % 96 = 0) (h1 : ¬t.val % 96 = 95) :
    bodyPre m c t ⊢ wp frame (wpE (defs₀ (F := Ideal)) Variants.none c none) Set.univ (bodyAt0 t) (fun _ => bodyPost m c t) := by
  unfold bodyPre bodyPost bodyAt0
  have hN : t.val < 96 := lt_of_lt_of_eq t.isLt (show cfg0.N = 96 from N_0)
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_8]
  rw [after0_0, after0_1, after0_2, after0_3, after0_4, after0_5, after0_6, after0_8]
  rw [(dats m 0 c).leavesExact_idle 9 t (idleAt0_9_B t (fun h => h0 ((hcond0_0 t).mp h)) (fun h => h1 ((hcond0_1 t).mp h))) (noFlush0_9_B t (fun h => h0 ((hcond0_0 t).mp h)) (fun h => h1 ((hcond0_1 t).mp h))),
    (dats m 0 c).leavesExact_idle 10 t (idleAt0_10_B t (fun h => h0 ((hcond0_0 t).mp h)) (fun h => h1 ((hcond0_1 t).mp h))) (noFlush0_10_B t (fun h => h0 ((hcond0_0 t).mp h)) (fun h => h1 ((hcond0_1 t).mp h)))]
  have hz : t.val ≠ 0 := by omega
  rw [PhiS_castSucc m c t, PhiS_pos m c _ _ hz, accX_next m c t hz, accT_next m c t hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%d8, H8⟩, ⟨%d9, H9⟩, ⟨%d10, H10⟩⟩
  iapply ((runB c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) Y7 _ _).2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, H9, H10, ⟨%s0, HS0⟩, ⟨%s1, HS1⟩, ⟨%s2, HS2⟩, ⟨%s3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · unfold owns; iexists _; isplitr
        swap; · iexact HS2
        ipureintro; rw [listB_S2, leftS2, coord_val]
      unfold owns; iexists _; isplitr
      swap; · iexact HS3
      ipureintro; rw [listB_S3, leftS3, coord_val]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [listB_6, left6, coord_val]
  isplitl [H7]
  · iexists (val7 t.val (iblk m c 0 t) (iblk m c 3 t) (iblk m c 4 t) Y7); isplitr
    · ipureintro; exact scalOk_step m c t Y7 (finds7 m c t Y7 hY7)
    unfold owns; iexists _; isplitr
    swap; · iexact H7
    ipureintro; rw [listB_7, left7, coord_val]
  isplitl [H8]
  · unfold owns; iexists _; isplitr
    swap; · iexact H8
    ipureintro; rw [listB_8, left8, coord_val]
  isplitl [H9]; · iexists _; iexact H9
  iexists _; iexact H10

set_option maxHeartbeats 14400000 in
/-- The body at the last point. -/
theorem sound_last (t : Fin cfg0.N) (h0 : ¬t.val % 96 = 0) (h1 : t.val % 96 = 95) :
    bodyPre m c t ⊢ wp frame (wpE (defs₀ (F := Ideal)) Variants.none c none) Set.univ (bodyAt0 t) (fun _ => bodyPost m c t) := by
  unfold bodyPre bodyPost bodyAt0
  have hN : t.val < 96 := lt_of_lt_of_eq t.isLt (show cfg0.N = 96 from N_0)
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_8]
  rw [after0_0, after0_1, after0_2, after0_3, after0_4, after0_5, after0_6, after0_8]
  rw [show (dats m 0 c).leavesExact 9 t = owns (c : Thread nD τ) (ms0_9 t) fullShare ((dats m 0 c).after 9 t) from by
    unfold Dat.leavesExact; rw [liveAt0_9_C t (fun h => h0 ((hcond0_0 t).mp h)) ((hcond0_1 t).mpr h1)], after0_9]
  rw [show (dats m 0 c).leavesExact 10 t = owns (c : Thread nD τ) (ms0_10 t) fullShare ((dats m 0 c).after 10 t) from by
    unfold Dat.leavesExact; rw [liveAt0_10_C t (fun h => h0 ((hcond0_0 t).mp h)) ((hcond0_1 t).mpr h1)], after0_10]
  have hz : t.val ≠ 0 := by omega
  rw [PhiS_castSucc m c t, PhiS_pos m c _ _ hz, accX_next m c t hz, accT_next m c t hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%d8, H8⟩, ⟨%d9, H9⟩, ⟨%d10, H10⟩⟩
  iapply ((runC c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) Y7 _ _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%e9, H9⟩, ⟨%e10, H10⟩, ⟨%s0, HS0⟩, ⟨%s1, HS1⟩, ⟨%s2, HS2⟩, ⟨%s3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · unfold owns; iexists _; isplitr
        swap; · iexact HS2
        ipureintro; rw [listC_S2, leftS2, coord_val]
      unfold owns; iexists _; isplitr
      swap; · iexact HS3
      ipureintro; rw [listC_S3, leftS3, coord_val]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [listC_6, left6, coord_val]
  isplitl [H7]
  · iexists (val7 t.val (iblk m c 0 t) (iblk m c 3 t) (iblk m c 4 t) Y7); isplitr
    · ipureintro; exact scalOk_step m c t Y7 (finds7 m c t Y7 hY7)
    unfold owns; iexists _; isplitr
    swap; · iexact H7
    ipureintro; rw [listC_7, left7, coord_val]
  isplitl [H8]
  · unfold owns; iexists _; isplitr
    swap; · iexact H8
    ipureintro; rw [listC_8, left8, coord_val]
  isplitl [H9]
  · unfold owns; iexists _; isplitr
    swap; · iexact H9
    ipureintro; rw [listC_9, left9, coord_val]
  unfold owns; iexists _; isplitr
  swap; · iexact H10
  ipureintro; rw [listC_10, left10, coord_val]

/-- The body at any point. -/
theorem sound_body (t : Fin cfg0.N) :
    bodyPre m c t ⊢ wp frame (wpE (defs₀ (F := Ideal)) Variants.none c none) Set.univ (bodyAt0 t) (fun _ => bodyPost m c t) := by
  by_cases h0 : t.val % 96 = 0
  · exact sound_first m c t h0 (by omega)
  · by_cases h1 : t.val % 96 = 95
    · exact sound_last m c t h0 h1
    · exact sound_middle m c t h0 h1

theorem defs₀_row (t : Fin cfg0.N) : defs₀ (F := Ideal) .tc cfg0.body (cfg0.bodyArgs t (cfg0.slots t)) = bodyAt0 t := by
  unfold defs₀; rw [Defs.onTc_tc]

end Cert.BwdIdeal.Hand

end
-- ==== Proof.BwdRun.lean ====
/- The backward call runs to the end over the extended reals, with its arrays as its proof data say and its arguments unchanged. -/
module

public import proofs.«01_k».proof.Proof.BwdDat
public import Idealize.ShloMosaic.Lib.Pipeline.Frame
public import Idealize.ShloMosaic.Lib.Pipeline.ArrRel

@[expose] public section

set_option maxRecDepth 16384

noncomputable section

namespace Cert.BwdIdeal.Hand

open Cert.BwdIdeal Cert.BwdIdeal.Gen Cert.XEnt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

section General

variable {nD : Nat} {τ : Topo} {sig : RefSig} {Val : EltTy → Type} {Λ₀ : Labels} {P : Type} [Fintype P] [DecidableEq P] [∀ e, Nonempty (Val e)]
  (cfgs : P → Cfg sig Λ₀) (dats : (p : P) → (c : Dev nD) → Dat τ Val Unit ℕ (UR sig nD τ) ℕ (cfgs p) c) (p : P)
  (kit : Pipeline.LaunchFacts (nD := nD) (τ := τ) cfgs p) (defs₀ : Defs nD τ sig Val Λ₀) (𝒱₀ : Variants)
  (fgt : Fin (cfgs p).W → Bool) (Rl : (c : Dev nD) → (w : Fin (cfgs p).W) → Fin (cfgs p).N → (((cfgs p).win w).block.Idx → Val ((cfgs p).win w).elt) → Prop)

include kit in
/-- A launch whose proof data hold the windows `fgt` marks to `Rl` and name every other window's contents. -/
theorem launch_rel (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, BodyObligationRel (dats p c) defs₀ 𝒱₀ () Set.univ fgt (Rl c))
    (hshare : ∀ c w, (dats p c).share w = fullShare) (howed : ∀ c t, (dats p c).owed t = 0)
    (V : (c : Dev nD) → (b : Ref sig .tc) → Buf Val ((c.tc : Thread nD τ).loc b))
    (hmain : Pipeline.HMain (Ix := Unit) (Name := ℕ) (U := UR sig nD τ) (Lvl := ℕ) cfgs p defs₀ 𝒱₀ m main V)
    (hA : ∀ c w, (dats p c).A w = V c (Pipeline.arrRef (cfgs p).spec w))
    (hin : ∀ c, Pipeline.ΦA (cfgs p).spec c ⊢ (dats p c).Φ 0) (hout : ∀ c, (dats p c).Φ (Fin.last (cfgs p).N) ⊢ Pipeline.ΦA (cfgs p).spec c) :
    θ_run (Pipeline.defs (fun q => Cfg.toPCfg (Val := Val) (cfgs q)) defs₀) (onTc main) (⟨m, fun _ => 0, g⟩)
      (fun r => RDat.FramePost (cfgs p) (fun c => (dats p c).toRRel fgt (Rl c)) V r ∧ r.2.sem = (fun _ => 0)) :=
  RDat.θ_run_frame_track cfgs p kit defs₀ 𝒱₀ (fun c => (dats p c).toRRel fgt (Rl c)) m g main (fun c => (hbody c).toRRel)
    hshare howed V hmain hA hin hout _ fun _ h => h

end General

variable (m : (ℓ : Loc nD τ sig) → Buf (Elt Ideal) ℓ) (ρ : Dev nD → PrngReg) (c : Dev nD)

/-! ## The body's obligation -/

section Windows

variable {Λ₁ : Labels} {cfg₁ : Cfg sig Λ₁} (dat : Dat τ (Elt Ideal) Unit ℕ (UR sig nD τ) ℕ cfg₁ c) (fgt : Fin cfg₁.W → Bool)
  (Rl : (w : Fin cfg₁.W) → Fin cfg₁.N → ((cfg₁.win w).block.Idx → Elt Ideal (cfg₁.win w).elt) → Prop) (t : Fin cfg₁.N)

/-- What one window hands the body. -/
def preW (w : Fin cfg₁.W) : sProp 𝕄 :=
  match fgt w with
  | true => iprop(∃ Y, ⌜(dat.toRRel fgt Rl).Finds w t Y⌝ ∗ owns (c : Thread nD τ) ((cfg₁.win w).stage (cfg₁.slots t w)) fullShare Y)
  | false => iprop(∃ d, owns (c : Thread nD τ) ((cfg₁.win w).stage (cfg₁.slots t w)) fullShare (dat.before w t d))

/-- What one window takes back. -/
def postW (w : Fin cfg₁.W) : sProp 𝕄 :=
  match fgt w with
  | true => iprop(∃ X, ⌜Rl w t X⌝ ∗ owns (c : Thread nD τ) ((cfg₁.win w).stage (cfg₁.slots t w)) fullShare X)
  | false => dat.leaves w t

theorem of_windows (defs₁ : Defs nD τ sig (Elt Ideal) Λ₁) (h : ∀ t, iprop(dat.Φ t.castSucc ∗ dat.owesAt () t.castSucc ∗ bigSep Finset.univ (preW c dat fgt Rl t))
      ⊢ wp frame (wpE defs₁ Variants.none c none) Set.univ (defs₁ .tc cfg₁.body (cfg₁.bodyArgs t (cfg₁.slots t)))
        fun _ => iprop(dat.Φ t.succ ∗ dat.owesAt () t.succ ∗ bigSep Finset.univ (postW c dat fgt Rl t))) :
    BodyObligationRel dat defs₁ Variants.none () Set.univ fgt Rl := h

variable (w : Fin cfg₁.W)

theorem preW_exact (h : fgt w = false) : preW c dat fgt Rl t w
    ⊢ iprop(∃ d, owns (c : Thread nD τ) ((cfg₁.win w).stage (cfg₁.slots t w)) fullShare (dat.before w t d)) := by
  unfold preW; rw [h]
theorem preW_marked (h : fgt w = true) : preW c dat fgt Rl t w
    ⊢ iprop(∃ Y, ⌜(dat.toRRel fgt Rl).Finds w t Y⌝ ∗ owns (c : Thread nD τ) ((cfg₁.win w).stage (cfg₁.slots t w)) fullShare Y) := by
  unfold preW; rw [h]
theorem postW_exact (h : fgt w = false) : dat.leavesExact w t ⊢ postW c dat fgt Rl t w := by
  unfold postW; rw [h]; exact dat.leaves_intro w t
theorem postW_marked (h : fgt w = true) :
    iprop(∃ X, ⌜Rl w t X⌝ ∗ owns (c : Thread nD τ) ((cfg₁.win w).stage (cfg₁.slots t w)) fullShare X) ⊢ postW c dat fgt Rl t w := by
  unfold postW; rw [h]

end Windows

theorem body_obligation : BodyObligationRel (dats m 0 c) (defs₀ (F := Ideal)) Variants.none () Set.univ marked (rel m c) := by
  refine of_windows c (dats m 0 c) marked (rel m c) defs₀ fun t => ?_
  rw [bigSep_W0, bigSep_W0, defs₀_row]
  have e (w : Fin cfg0.W) (h : marked w = false) := preW_exact c (dats m 0 c) marked (rel m c) t w h
  have x (w : Fin cfg0.W) (h : marked w = false) := postW_exact c (dats m 0 c) marked (rel m c) t w h
  refine triple_restated (sound_body m c t) rfl ?_ fun _ => ?_
  · exact BIClass.sep_mono .rfl (BIClass.sep_mono .rfl (BIClass.sep_mono (e 0 rfl) (BIClass.sep_mono (e 1 rfl) (BIClass.sep_mono (e 2 rfl) (BIClass.sep_mono (e 3 rfl) (BIClass.sep_mono (e 4 rfl)
      (BIClass.sep_mono (e 5 rfl) (BIClass.sep_mono (e 6 rfl) (BIClass.sep_mono (preW_marked c (dats m 0 c) marked (rel m c) t 7 rfl)
      (BIClass.sep_mono (e 8 rfl) (BIClass.sep_mono (e 9 rfl) (e 10 rfl))))))))))))
  · unfold bodyPost
    refine BIClass.sep_mono .rfl (BIClass.sep_mono .rfl ?_)
    refine BIClass.sep_mono (x 0 rfl) ?_
    refine BIClass.sep_mono (x 1 rfl) ?_
    refine BIClass.sep_mono (x 2 rfl) ?_
    refine BIClass.sep_mono (x 3 rfl) ?_
    refine BIClass.sep_mono (x 4 rfl) ?_
    refine BIClass.sep_mono (x 5 rfl) ?_
    refine BIClass.sep_mono (x 6 rfl) ?_
    refine BIClass.sep_mono (postW_marked c (dats m 0 c) marked (rel m c) t 7 rfl) ?_
    refine BIClass.sep_mono (x 8 rfl) ?_
    exact BIClass.sep_mono (x 9 rfl) (x 10 rfl)

/-! ## The run -/

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 96 := N_0; omega)

/-- Every execution terminates with the arrays as the proof data say and every counter at zero. -/
theorem run_main_quiescent : θ_run defs (onTc (τ := τ) (main (F := Ideal))) (s₀ m ρ)
    (fun r => RDat.FramePost (cfgs 0) (fun c => (dats m 0 c).toRRel marked (rel m c)) (V m) r ∧ r.2.sem = fun _ => 0) :=
  launch_rel cfgs (dats m) (0 : Fin 1) launch0 defs₀ Variants.none marked (rel m) m ρ main
    (fun c => body_obligation m c) (fun c => (dats m 0 c).share_full fun _ => rfl) (fun _ _ => rfl) (V m) (hmain m Variants.none)
    (A_eq m) (hin m) (hout m)

theorem run_main : θ_run defs (onTc (τ := τ) (main (F := Ideal))) (s₀ m ρ)
    (RDat.FramePost (cfgs 0) (fun c => (dats m 0 c).toRRel marked (rel m c)) (V m)) :=
  (θ_run defs _ _).mono (fun _ h => h.1) (run_main_quiescent m ρ)

/-- The argument arrays after a run are what they were, whatever the proof data say of the windows. -/
theorem args_kept (rdat : (c : Dev nD) → RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(RDat.FramePost.arr_in h c 0 rfl).trans ((hA c 0).trans (V_main_arg0 m c)),
      (RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (RDat.FramePost.arr_in h c 5 rfl).trans ((hA c 5).trans (V_main_arg5 m c))⟩) h

/-- The call terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (args_kept m ρ (fun c => (dats m 0 c).toRRel marked (rel m c)) (A_eq m) (run_main m ρ))
    ((θ_run defs _ _).mono (fun _ h => h.2) (run_main_quiescent m ρ))

/-! ## The result arrays after a run -/

section Arrays
variable {Λ₁ : Labels} {cfg₁ : Cfg sig Λ₁} {c : Dev nD} (dat : Dat τ (Elt Ideal) Unit ℕ (UR sig nD τ) ℕ cfg₁ c) {fgt : Fin cfg₁.W → Bool}
  {Rl : (w : Fin cfg₁.W) → Fin cfg₁.N → ((cfg₁.win w).block.Idx → Elt Ideal (cfg₁.win w).elt) → Prop}

/-- The array of a window that is named exactly is the exact data's. -/
theorem arr_exact (w : Fin cfg₁.W) (hf : fgt w = false) (G : Buf (Elt Ideal) ((cfg₁.win w).arr.view.loc (c.tc : Thread nD τ)))
    (h : (dat.toRRel fgt Rl).ArrAt w cfg₁.N G) : G = dat.arrAt w cfg₁.N :=
  (dat.toR_arrAt_iff w _ _).mp ((dat.toR.override_arrAt (by simp only [hf]) _ _).mp h)

/-- The array of a window held to a relation is that of exact data which leave, at each flush, contents that meet the relation. -/
theorem arr_marked (w : Fin cfg₁.W) (hf : fgt w = true) (G : Buf (Elt Ideal) ((cfg₁.win w).arr.view.loc (c.tc : Thread nD τ)))
    (h : (dat.toRRel fgt Rl).ArrAt w cfg₁.N G) :
    ∃ dat' : Dat τ (Elt Ideal) Unit ℕ (UR sig nD τ) ℕ cfg₁ c, (∀ u, (cfg₁.win w).flush u = true → Rl w u (dat'.after w u)) ∧ G = dat'.arrAt w cfg₁.N := by
  obtain ⟨X, hX, hG⟩ := h.exists_exact
  refine ⟨(dat.toRRel fgt Rl).withAfter (Function.update (fun _ _ _ => Classical.arbitrary _) w X), fun u hu => ?_,
    hG _ fun u _ _ => by rw [Function.update_self]⟩
  rw [RDat.withAfter_after, Function.update_self]
  exact dat.toRRel_leaves hf (hX u u.isLt hu)

end Arrays

end Cert.BwdIdeal.Hand

end
-- ==== Proof.BwdWhole.lean ====
/-
  The backward call's results over the extended reals, from whole arrays and without any program: the gradient of every logit, its
  codes and scales in groups of 128 columns, the two products of the quantised gradient, and the loss.
-/
module

public import proofs.«01_k».proof.Proof.BwdMath
public import Mathlib.Algebra.BigOperators.Fin

@[expose] public section

noncomputable section

namespace Cert.XEnt

open Idealize.ShloMosaic

/-- Whether a label is column `v`. -/
def isLabel (lab : BitVec 32) (v : Nat) : BitVec 1 := IntOp.cmpi CmpIPredicate.eq lab (BitVec.ofNat 32 v)

/-- Column `l` of group `n`. -/
abbrev col (n : Fin 384) (l : Fin 128) : Fin 49152 := ⟨n.val * 128 + l.val, by omega⟩
/-- The group of a column, and the column within its group. -/
abbrev grp (v : Fin 49152) : Fin 384 := ⟨v.val / 128, by omega⟩
abbrev lane (v : Fin 49152) : Fin 128 := ⟨v.val % 128, by omega⟩

section Whole
variable (T : Fin 1280 → Fin 49152 → EReal) (L : Fin 1280 → EReal) (lab : Fin 1280 → BitVec 32)
  (W : Fin 49152 → Fin 2048 → EReal) (ws : Fin 49152 → EReal) (hq : Fin 1280 → Fin 2048 → EReal)

/-- A token's gradients over a group. -/
def wholeGrad (p : Fin 1280) (n : Fin 384) (l : Fin 128) : EReal := grad (T p (col n l)) (L p) (isLabel (lab p) (n.val * 128 + l.val))
/-- The scale of a token's group. -/
def wholeScale (p : Fin 1280) (n : Fin 384) : EReal := rowScale (wholeGrad T L lab p n)
theorem wholeScale_eq (p : Fin 1280) (n : Fin 384) :
    wholeScale T L lab p n = Ideal.exp2 (expo (amax (wholeGrad T L lab p n) * Ideal.ofBits FTy.f32 932333861#32)) := rfl
/-- The code of an entry. -/
def wholeCode (p : Fin 1280) (v : Fin 49152) : EReal := rowCode (wholeGrad T L lab p (grp v)) (lane v)
/-- The quantised gradient. -/
def wholeQuant (p : Fin 1280) (v : Fin 49152) : EReal := wholeCode T L lab p v * wholeScale T L lab p (grp v)
/-- The weight gradients. -/
def wholeDW (v : Fin 49152) (k : Fin 2048) : EReal := ∑ p : Fin 1280, wholeQuant T L lab p v * hq p k
/-- The activation gradients. -/
def wholeDX (p : Fin 1280) (k : Fin 2048) : EReal := ∑ v : Fin 49152, wholeQuant T L lab p v * (W v k * ws v)
/-- A token's label logit at its column, else zero. -/
def labelAt (p : Fin 1280) (v : Fin 49152) : EReal := Scalar.select (isLabel (lab p) v.val) (T p v) 0
/-- The loss of a token. -/
def wholeLoss (p : Fin 1280) : EReal := L p * ln2 - 30 * ∑ v : Fin 49152, labelAt T lab p v

/-- The exponent is the same when the zero test is made before the product by a nonzero real. -/
theorem expo_mul (a : EReal) {b : EReal} (hb : b ≠ 0) :
    (if a = 0 then 0 else Ideal.liftRound Int.floor (Ideal.log (a * b) * log2e) + 1) = expo (a * b) := by
  unfold expo
  have h : a * b = 0 ↔ a = 0 := by rw [mul_eq_zero]; exact or_iff_left hb
  by_cases ha : a = 0
  · rw [if_pos ha, if_pos (h.mpr ha)]
  · rw [if_neg ha, if_neg fun hh => ha (h.mp hh)]

/-- The reciprocal of the largest code is not zero. -/
theorem ofBits_inv_max_ne : Ideal.ofBits FTy.f32 932333861#32 ≠ 0 := by
  simp [Ideal.ofBits, Ideal.ieee, -EReal.coe_mul]

theorem loss_eq (p : Fin 1280) : L p * ln2 - ∑ v : Fin 49152, Scalar.select (isLabel (lab p) v.val) (30 * T p v) 0 = wholeLoss T L lab p := by
  rw [wholeLoss, thirty_mul_sum]
  refine congrArg (L p * ln2 - ·) (Finset.sum_congr rfl fun v _ => ?_)
  rw [labelAt]
  rcases BitVec.eq_zero_or_eq_one (isLabel (lab p) v.val) with h | h
  · rw [h]; exact (mul_zero _).symm
  · rw [h]; rfl

end Whole

end Cert.XEnt

end
-- ==== Proof.BwdKernel.lean ====
/-
  The kernel side of the backward call: what the five result arrays end holding over the extended reals, entry by entry, as functions of
  the whole arrays (`Proof/BwdWhole.lean`).
-/
module

public import proofs.«01_k».proof.Proof.BwdRun
public import proofs.«01_k».proof.Proof.BwdWhole
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BwdIdeal.Hand

open Cert.BwdIdeal Cert.BwdIdeal.Gen Cert.XEnt

variable (m : (ℓ : Loc nD τ sig) → Buf (Elt Ideal) ℓ) (c : Dev nD)

/-! ## The blocks a point reads, from the arguments -/

abbrev aT (p : Fin 1280) (v : Fin 49152) : EReal := m ((c : Thread nD τ).loc main_arg0) (ix2 p v)
abbrev aW (v : Fin 49152) (k : Fin 2048) : EReal := m ((c : Thread nD τ).loc main_arg1) (ix2 v k)
abbrev aS (v : Fin 49152) : EReal := m ((c : Thread nD τ).loc main_arg2) (ix1 v)
abbrev aL (p : Fin 1280) : EReal := m ((c : Thread nD τ).loc main_arg3) (ix1 p)
abbrev aLab (p : Fin 1280) : BitVec 32 := m ((c : Thread nD τ).loc main_arg4) (ix2 ⟨p.val / 640, by omega⟩ ⟨p.val % 640, by omega⟩)
abbrev aH (p : Fin 1280) (k : Fin 2048) : EReal := m ((c : Thread nD τ).loc main_arg5) (ix2 p k)

theorem idx : ∀ t : Fin cfg0.N, win0_0.index t = ![0, t.val] ∧ win0_1.index t = ![t.val, 0] ∧ win0_2.index t = ![0, t.val]
      ∧ win0_3.index t = ![0, 0] ∧ win0_4.index t = ![0, 0] ∧ win0_5.index t = ![0, 0] ∧ win0_6.index t = ![0, t.val]
      ∧ win0_7.index t = ![0, t.val / 32] ∧ win0_8.index t = ![t.val, 0] ∧ win0_9.index t = ![0, 0] ∧ win0_10.index t = ![0, 0] :=
  (by decide +kernel : ∀ t : Fin grid0.N, _)

variable (t : Fin cfg0.N)

theorem point0 (p : Fin 1280) (q : Fin 512) (v : Fin 49152) (hv : v.val = t.val * 512 + q.val) : iblk m c 0 t (ix2 p q) = aT m c p v := by
  blk_point [iblk, V, idx t]
theorem point1 (q : Fin 512) (k : Fin 2048) (v : Fin 49152) (hv : v.val = t.val * 512 + q.val) : iblk m c 1 t (ix2 q k) = aW m c v k := by
  blk_point [iblk, V, idx t]
theorem point2 (q : Fin 512) (v : Fin 49152) (hv : v.val = t.val * 512 + q.val) : iblk m c 2 t (ix2 0 q) = aS m c v := by
  blk_point [iblk, V, idx t]
theorem point3 (p : Fin 1280) (l : Fin 128) : iblk m c 3 t (ix2 p l) = aL m c p := by
  blk_point [iblk, V, idx t]
theorem point4 (p : Fin 1280) (l : Fin 128) : iblk m c 4 t (ix2 p l) = aLab m c p := by
  blk_point [iblk, V, idx t]
theorem point5 (p : Fin 1280) (k : Fin 2048) : iblk m c 5 t (ix2 p k) = aH m c p k := by
  blk_point [iblk, V, idx t]

/-- A point's gradients over one of its four groups are those of the whole array's group. -/
theorem gB_point (p : Fin 1280) (g : Fin 4) (n : Fin 384) (hn : n.val = 4 * t.val + g.val) :
    gB t.val (iblk m c 0 t) (iblk m c 3 t) (iblk m c 4 t) p g = wholeGrad (aT m c) (aL m c) (aLab m c) p n := by
  funext l
  unfold gB wholeGrad
  rw [point0 m c t p (laneOf g l) (col n l) (by show n.val * 128 + l.val = t.val * 512 + (128 * g.val + l.val); omega), point3, point4,
    show 512 * t.val + (128 * g.val + l.val) = n.val * 128 + l.val by omega]
  rfl

theorem selB_point (p : Fin 1280) (g : Fin 4) (l : Fin 128) (v : Fin 49152) (hv : v.val = t.val * 512 + (g.val * 128 + l.val)) :
    selB t.val (iblk m c 0 t) (iblk m c 4 t) p g l = labelAt (aT m c) (aLab m c) p v := by
  unfold selB labelAt
  rw [point0 m c t p (laneOf g l) v (by show v.val = t.val * 512 + (128 * g.val + l.val); omega), point4,
    show 512 * t.val + (128 * g.val + l.val) = v.val by omega]
  rfl

/-- A point's codes and quantised gradients. -/
theorem code_point (p : Fin 1280) (q : Fin 512) (v : Fin 49152) (hv : v.val = t.val * 512 + q.val) :
    rowCode (gB t.val (iblk m c 0 t) (iblk m c 3 t) (iblk m c 4 t) p (grpOf q)) (lanOf q) = wholeCode (aT m c) (aL m c) (aLab m c) p v := by
  rw [gB_point m c t p (grpOf q) (grp v) (by show v.val / 128 = 4 * t.val + q.val / 128; omega),
    show lanOf q = lane v from Fin.ext (by show q.val % 128 = v.val % 128; omega)]
  rfl

theorem quant_point (p : Fin 1280) (q : Fin 512) (v : Fin 49152) (hv : v.val = t.val * 512 + q.val) :
    valG t.val (iblk m c 0 t) (iblk m c 3 t) (iblk m c 4 t) (ix2 p q) = wholeQuant (aT m c) (aL m c) (aLab m c) p v := by
  refine congrArg₂ HMul.hMul (code_point m c t p q v hv) ?_
  show rowScale (gB t.val (iblk m c 0 t) (iblk m c 3 t) (iblk m c 4 t) p (grpOf q)) = _
  rw [gB_point m c t p (grpOf q) (grp v) (by show v.val / 128 = 4 * t.val + q.val / 128; omega)]
  rfl

/-! ## The results -/

/-- The gradient's codes. -/
theorem final_codes : (dats m 0 c).arrAt 6 cfg0.N = fun i : S1280x49152.Idx => wholeCode (aT m c) (aL m c) (aLab m c) (i 0) (i 1) := by
  refine (dats m 0 c).arrAt_eq_of_covers 6 _ (by decide +kernel) fun t hf y => ?_
  blk_simp
  rw [after0_6]
  have key : ∀ (p : Fin 1280) (v : Fin 49152), p.val = (y 0).val → v.val = t.val * 512 + (y 1).val →
      val6 t.val (iblk m c 0 t) (iblk m c 3 t) (iblk m c 4 t) y = wholeCode (aT m c) (aL m c) (aLab m c) p v := fun p v hp hv => by
    rw [show p = y 0 from Fin.ext hp]; exact code_point m c t (y 0) (y 1) v hv
  refine key _ _ ?_ ?_ <;> blk_simp [idx t] <;> omega

/-- The weight gradients. -/
theorem final_dw : (dats m 0 c).arrAt 8 cfg0.N = fun i : S49152x2048.Idx => wholeDW (aT m c) (aL m c) (aLab m c) (aH m c) (i 0) (i 1) := by
  refine (dats m 0 c).arrAt_eq_of_covers 8 _ (by decide +kernel) fun t hf y => ?_
  blk_simp
  rw [after0_8]
  have key : ∀ (v : Fin 49152) (k : Fin 2048), v.val = t.val * 512 + (y 0).val → k.val = (y 1).val →
      val8 t.val (iblk m c 0 t) (iblk m c 3 t) (iblk m c 4 t) (iblk m c 5 t) y = wholeDW (aT m c) (aL m c) (aLab m c) (aH m c) v k := fun v k hv hk => by
    rw [show k = y 1 from Fin.ext hk]
    exact Finset.sum_congr rfl fun p _ => congrArg₂ HMul.hMul (quant_point m c t p (y 0) v hv) (point5 m c t p (y 1))
  refine key _ _ ?_ ?_ <;> blk_simp [idx t] <;> omega

/-- A sum over points and their 512 columns is the sum over all columns. -/
theorem sum_points {N : ℕ} (hN : N = 96) (E : Fin N → Fin 512 → EReal) (f : Fin 49152 → EReal)
    (h : ∀ n q (v : Fin 49152), v.val = n.val * 512 + q.val → E n q = f v) : ∑ n, ∑ q, E n q = ∑ v, f v := by
  subst hN
  exact (Finset.sum_congr rfl fun n _ => Finset.sum_congr rfl fun q _ => h n q _ rfl).trans (Fin.sum_mul_add_fin 96 512 f)

/-- After the last point the sum of activation gradients runs over all columns. -/
theorem accX_last (t : Fin cfg0.N) (ht : t.val = 95) (p : Fin 1280) (k : Fin 2048) :
    accX m c t.val t.isLt (ix2 p k) = wholeDX (aT m c) (aL m c) (aLab m c) (aW m c) (aS m c) p k := by
  rw [Pipeline.eq_sum_fin_of_reset_step_apply_last (fun n h => accX m c n h) 96 (fun _ => 0)
    (fun n (j : S1280x2048.Idx) => ∑ v : Fin 512, valW n.val (iblk m c 0 n) (iblk m c 2 n) (iblk m c 3 n) (iblk m c 4 n) (ix2 (j 0) v) * iblk m c 1 n (ix2 v (j 1)))
    (fun n h j => by rw [accX_first m c n (by have : n.val < 96 := lt_of_lt_of_eq n.isLt N_0; omega)]; rfl)
    (fun n h j => by rw [accX_next m c n (by omega)]; rfl) (le_of_eq N_0) t ((show t.val + 1 = 96 by omega).trans N_0.symm) (ix2 p k), zero_add]
  refine sum_points N_0 (fun n q => valW n.val (iblk m c 0 n) (iblk m c 2 n) (iblk m c 3 n) (iblk m c 4 n) (ix2 p q) * iblk m c 1 n (ix2 q k)) _
    fun n q v hv => ?_
  show valG n.val (iblk m c 0 n) (iblk m c 3 n) (iblk m c 4 n) (ix2 p q) * iblk m c 2 n (ix2 0 q) * iblk m c 1 n (ix2 q k) = _
  rw [quant_point m c n p q v hv, point2 m c n q v hv, point1 m c n q k v hv, mul_assoc, mul_comm (aS m c v)]

/-- The activation gradients. -/
theorem final_dx : (dats m 0 c).arrAt 9 cfg0.N = fun i : S1280x2048.Idx =>
    wholeDX (aT m c) (aL m c) (aLab m c) (aW m c) (aS m c) (i 0) (i 1) := by
  refine (dats m 0 c).arrAt_eq_of_covers 9 _ (by decide +kernel) fun t hf y => ?_
  have h95 := (flush0_9 t).mp hf
  blk_simp
  rw [after0_9]
  have key : ∀ (p : Fin 1280) (k : Fin 2048), p.val = (y 0).val → k.val = (y 1).val →
      accX m c t.val t.isLt y = wholeDX (aT m c) (aL m c) (aLab m c) (aW m c) (aS m c) p k := fun p k hp hk => by
    rw [show p = y 0 from Fin.ext hp, show k = y 1 from Fin.ext hk]
    refine (congrArg _ (idx2_eta y)).trans (accX_last m c t ?_ (y 0) (y 1))
    have : t.val < 96 := lt_of_lt_of_eq t.isLt N_0
    omega
  refine key _ _ ?_ ?_ <;> blk_simp [idx t]

/-- A sum over lanes, points and the four groups of a point is the sum over all columns. -/
theorem sum_blocks {N : ℕ} (hN : N = 96) (E : Fin 128 → Fin N → Fin 4 → EReal) (f : Fin 49152 → EReal)
    (h : ∀ l n g (hv : n.val * 512 + (g.val * 128 + l.val) < 49152), E l n g = f ⟨n.val * 512 + (g.val * 128 + l.val), hv⟩) :
    ∑ l, ∑ n, ∑ g, E l n g = ∑ v, f v := by
  subst hN
  rw [Finset.sum_comm]
  refine (Finset.sum_congr rfl fun n _ => ?_).trans (Fin.sum_mul_add_fin 96 512 f)
  rw [Finset.sum_comm]
  refine Fin.sum_mul_add_congr (f := fun q : Fin 512 => f ⟨n.val * 512 + q.val, by omega⟩) fun g l hl => ?_
  exact h l n g _

/-- After the last point the lanes' label logits sum to the label logits over all columns. -/
theorem accT_last (t : Fin cfg0.N) (ht : t.val = 95) (p : Fin 1280) :
    ∑ l : Fin 128, accT m c t.val t.isLt (ix2 p l) = ∑ v : Fin 49152, labelAt (aT m c) (aLab m c) p v := by
  refine (Finset.sum_congr rfl fun l _ => ?_).trans
    (sum_blocks N_0 (fun l n g => selB n.val (iblk m c 0 n) (iblk m c 4 n) p g l) _ fun l n g hv => selB_point m c n p g l _ rfl)
  rw [Pipeline.eq_sum_fin_of_reset_step_apply_last (fun n h => accT m c n h) 96 (fun _ => 0)
    (fun n (j : S1280x128.Idx) => ∑ g : Fin 4, selB n.val (iblk m c 0 n) (iblk m c 4 n) (j 0) g (j 1))
    (fun n h j => by
      rw [accT_first m c n (by have : n.val < 96 := lt_of_lt_of_eq n.isLt N_0; omega), Fin.sum_univ_four, ← add_assoc, ← add_assoc, ← add_assoc]; rfl)
    (fun n h j => by rw [accT_next m c n (by omega), Fin.sum_univ_four, ← add_assoc, ← add_assoc, ← add_assoc]; rfl)
    (le_of_eq N_0) t ((show t.val + 1 = 96 by omega).trans N_0.symm) (ix2 p l), zero_add]
  rfl

/-- The losses, one copy per lane. -/
theorem final_loss : (dats m 0 c).arrAt 10 cfg0.N = fun i : S1280x128.Idx => wholeLoss (aT m c) (aL m c) (aLab m c) (i 0) := by
  refine (dats m 0 c).arrAt_eq_of_covers 10 _ (by decide +kernel) fun t hf y => ?_
  have h95 := (flush0_10 t).mp hf
  blk_simp
  rw [after0_10]
  have key : ∀ p : Fin 1280, p.val = (y 0).val → val10 (iblk m c 3 t) (accT m c t.val t.isLt) y = wholeLoss (aT m c) (aL m c) (aLab m c) p := fun p hp => by
    rw [show p = y 0 from Fin.ext hp]
    unfold val10 wholeLoss
    have : t.val < 96 := lt_of_lt_of_eq t.isLt N_0
    rw [ofBits_thirty, accT_last m c t (by omega) (y 0), point3 m c t (y 0) (y 1)]
  refine key _ ?_; blk_simp [idx t]

/-- The scales: whatever exact data leave the filled lanes at the flushing points end at the scales. -/
theorem final_scales (dat : Dat τ (Elt Ideal) Unit ℕ (UR sig nD τ) ℕ cfg0 c)
    (h : ∀ u, (cfg0.win 7).flush u = true → scalOk m c u (dat.after 7 u)) :
    dat.arrAt 7 cfg0.N = fun i : S1280x384.Idx => wholeScale (aT m c) (aL m c) (aLab m c) (i 0) (i 1) := by
  refine dat.arrAt_eq_of_covers 7 _ (by decide +kernel) fun t hf y => ?_
  have h31 := (flush0_7 t).mp hf
  have hs := h t hf
  blk_simp
  have key : ∀ (p : Fin 1280) (n : Fin 384), p.val = (y 0).val → n.val = t.val / 32 * 128 + (y 1).val →
      dat.after 7 t y = wholeScale (aT m c) (aL m c) (aLab m c) p n := fun p n hp hn => by
    rw [show p = y 0 from Fin.ext hp]
    have h1 : (y 1).val < 128 := (y 1).isLt
    refine (congrArg _ (idx2_eta y)).trans ((hs (y 0) (y 1) (by omega)).trans ?_)
    unfold scal wholeScale
    rw [gB_point m c (scalPoint t (y 1)) (y 0) _ n (by
      show n.val = 4 * (32 * (t.val / 32) + (y 1).val / 4) + (y 1).val % 4
      omega)]
  refine key _ _ ?_ ?_ <;> blk_simp [idx t] <;> omega

/-- Every run ends with the five results as named above. -/
theorem results (ρ : Dev nD → PrngReg) : θ_run defs (onTc (τ := τ) (main (F := Ideal))) ⟨m, fun _ => 0, ρ⟩ (fun r => ∀ c : Dev nD,
      r.2.mem ((c.tc : Thread nD τ).loc main_v5_0) = (fun i : S1280x49152.Idx => wholeCode (aT m c) (aL m c) (aLab m c) (i 0) (i 1))
      ∧ r.2.mem ((c.tc : Thread nD τ).loc main_v5_1) = (fun i : S1280x384.Idx => wholeScale (aT m c) (aL m c) (aLab m c) (i 0) (i 1))
      ∧ r.2.mem ((c.tc : Thread nD τ).loc main_v5_2) = (fun i : S49152x2048.Idx => wholeDW (aT m c) (aL m c) (aLab m c) (aH m c) (i 0) (i 1))
      ∧ r.2.mem ((c.tc : Thread nD τ).loc main_v5_3) = (fun i : S1280x2048.Idx => wholeDX (aT m c) (aL m c) (aLab m c) (aW m c) (aS m c) (i 0) (i 1))
      ∧ r.2.mem ((c.tc : Thread nD τ).loc main_v5_4) = (fun i : S1280x128.Idx => wholeLoss (aT m c) (aL m c) (aLab m c) (i 0))) :=
  (θ_run defs _ _).mono (fun r h c =>
    ⟨(arr_exact (dats m 0 c) 6 rfl _ ((h c).1 6)).trans (final_codes m c),
      (by
        obtain ⟨dat, hd, e⟩ := arr_marked (dats m 0 c) 7 rfl _ ((h c).1 7)
        exact e.trans (final_scales m c dat hd)),
      (arr_exact (dats m 0 c) 8 rfl _ ((h c).1 8)).trans (final_dw m c),
      (arr_exact (dats m 0 c) 9 rfl _ ((h c).1 9)).trans (final_dx m c),
      (arr_exact (dats m 0 c) 10 rfl _ ((h c).1 10)).trans (final_loss m c)⟩) (run_main m ρ)

end Cert.BwdIdeal.Hand
end
end
-- ==== Proof.BwdReference.lean ====
/- The reference side of the backward call: what its five result arrays end holding over the extended reals, entry by entry. -/
module

public import proofs.«01_k».proof.Proof.Gen.BwdRefIdeal.Value
public import proofs.«01_k».proof.Proof.BwdWhole
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.BwdRefIdeal.Hand

open Cert.BwdRefIdeal Cert.BwdRefIdeal.Gen Cert.XEnt

theorem log2e_eq : Named.named (F := Ideal) Cert.BwdRefIdeal.κ "log2e" (φ := .f32) 1069066811#32 = log2e :=
  IdealRules.named_const.ideal_named_scalar _ _ _ _ rfl
theorem ln2_eq : Named.named (F := Ideal) Cert.BwdRefIdeal.κ "ln2" (φ := .f32) 1060205080#32 = ln2 :=
  IdealRules.named_const.ideal_named_scalar _ _ _ _ rfl

section Payloads
variable (x0 : Vec Ideal S1280x49152 .f32) (x1 : Vec Ideal S49152x2048 .fp8e4m3) (x2 : Vec Ideal S49152x1 .f32) (x3 : Vec Ideal S1280x1 .f32)
  (x4 : Vec Ideal S1280x1 .i32) (x5 : Vec Ideal S1280x2048 .bf16)

abbrev mat {a b : Nat} {e : EltTy} (x : Vec Ideal ⟨2, ![a, b]⟩ e) (p : Fin a) (q : Fin b) : Elt Ideal e := x (ix2 p q)
abbrev first {a : Nat} {e : EltTy} (x : Vec Ideal ⟨2, ![a, 1]⟩ e) (p : Fin a) : Elt Ideal e := x (ix2 p 0)

theorem pay6_at (p : Fin 1280) (n : Fin 384) (l : Fin 128) :
    k0_pay6 x0 x3 x4 (ix3 p n l) = wholeGrad (mat x0) (first x3) (first x4) p n l := by
  pointwise [k0_pay6, k0_pay4, k0_pay3, k0_pay2]
  rw [wholeGrad, grad, prob_eq, isLabel]
  simp only [ln2_eq, ofBits_thirty]

/-- The largest magnitudes of a vector's groups. -/
def largest (z : FVec Ideal S1280x384x128 .f32) : FVec Ideal S1280x384 .f32 :=
  multiReduction .maximumf [2] S1280x384 (absf z) 0xFF800000#32 reduces_S1280x384x128_S1280x384 (.inl rfl) rfl

theorem largest_at (z : FVec Ideal S1280x384x128 .f32) (p : Fin 1280) (n : Fin 384) : largest z (ix2 p n) = amax fun l => z (ix3 p n l) := by
  pointwise [largest, amax]

/-- The exponents from the largest magnitudes. -/
def exponents (a : FVec Ideal S1280x384 .f32) : FVec Ideal S1280x384 .f32 :=
  k0_pay11 (cmpf .oeq a (broadcast S1280x384 (Scalar.ofBits .f32 0x00000000#32)))
    (log (mulf a (broadcast S1280x384 (Scalar.ofBits .f32 0x37924925#32)))) (k0_pay10 (F := Ideal))

theorem exponents_at (a : FVec Ideal S1280x384 .f32) (p : Fin 1280) (n : Fin 384) :
    exponents a (ix2 p n) = expo (a (ix2 p n) * Ideal.ofBits FTy.f32 932333861#32) := by
  rw [← expo_mul _ ofBits_inv_max_ne]
  pointwise [exponents, k0_pay11, k0_pay10]
  rw [log2e_eq]

/-- The codes from the gradients and the exponents. -/
def codes (z : FVec Ideal S1280x384x128 .f32) (e : FVec Ideal S1280x384 .f32) : FVec Ideal S1280x384x128 .f32 :=
  minimumf (broadcast S1280x384x128 (Scalar.ofBits .f32 0x47600000#32)) (maximumf (broadcast S1280x384x128 (Scalar.ofBits .f32 0xC7600000#32))
    (mulf z (broadcastTo S1280x384x128 (shapeCast S1280x384x1 (exp2 (subf (broadcast S1280x384 (Scalar.ofBits .f32 0x00000000#32)) e))
      shapeCasts_S1280x384_S1280x384x1) broadcasts_S1280x384x1_S1280x384x128)))

theorem codes_at (z : FVec Ideal S1280x384x128 .f32) (e : FVec Ideal S1280x384 .f32) (p : Fin 1280) (n : Fin 384) (l : Fin 128) :
    codes z e (ix3 p n l) = min (Ideal.ofBits FTy.f32 1197473792#32) (max (Ideal.ofBits FTy.f32 3344957440#32)
      (z (ix3 p n l) * Ideal.exp2 (0 - e (ix2 p n)))) := by
  pointwise [codes]
  rfl

theorem zero2 : (![0, 0] : Fin 2 → Nat) = fun _ => 0 := by funext a; fin_cases a <;> rfl

theorem pay17_eq : k0_pay17 x0 x1 x2 x3 x4 x5 = k0_pay6 x0 x3 x4 := by
  rw [k0_pay17, View.ld_unit_zero zero2, View.ld_unit_zero zero2, View.ld_unit_zero zero2]
theorem pay18_eq : k0_pay18 x0 x1 x2 x3 x4 x5 = k0_pay8 x0 x3 x4 := by
  rw [k0_pay18, View.ld_unit_zero zero2, View.ld_unit_zero zero2, View.ld_unit_zero zero2]
theorem pay19_eq : k0_pay19 x0 x1 x2 x3 x4 x5 = k0_pay9 x0 x3 x4 := by
  rw [k0_pay19, View.ld_unit_zero zero2, View.ld_unit_zero zero2, View.ld_unit_zero zero2]
theorem pay20_eq : k0_pay20 x0 x1 x2 x3 x4 x5 = k0_pay10 (F := Ideal) := rfl

/-- The whole pieces: gradients, exponents, and what is stored from them. -/
abbrev gr : FVec Ideal S1280x384x128 .f32 := k0_pay6 x0 x3 x4
abbrev ex : FVec Ideal S1280x384 .f32 := exponents (largest (gr x0 x3 x4))

theorem pay11_eq : k0_pay11 (k0_pay8 x0 x3 x4) (k0_pay9 x0 x3 x4) (k0_pay10 (F := Ideal)) = ex x0 x3 x4 := rfl
theorem pay12_eq : k0_pay12 (k0_pay8 x0 x3 x4) (k0_pay9 x0 x3 x4) (k0_pay10 (F := Ideal)) = exp2 (ex x0 x3 x4) := rfl
theorem pay13_eq : k0_pay13 (k0_pay6 x0 x3 x4) (k0_pay8 x0 x3 x4) (k0_pay9 x0 x3 x4) (k0_pay10 (F := Ideal))
    = truncf .fp8e5m2 (codes (gr x0 x3 x4) (ex x0 x3 x4)) bitsLt_fp8e5m2_f32 := rfl

theorem ex_at (p : Fin 1280) (n : Fin 384) :
    ex x0 x3 x4 (ix2 p n) = expo (amax (wholeGrad (mat x0) (first x3) (first x4) p n) * Ideal.ofBits FTy.f32 932333861#32) := by
  rw [ex, exponents_at, largest_at]
  refine congrArg (fun f => expo (amax f * _)) (funext fun l => ?_)
  exact pay6_at x0 x3 x4 p n l

theorem code_at (p : Fin 1280) (n : Fin 384) (l : Fin 128) :
    codes (gr x0 x3 x4) (ex x0 x3 x4) (ix3 p n l) = rowCode (wholeGrad (mat x0) (first x3) (first x4) p n) l := by
  rw [codes_at, ex_at, gr, pay6_at]
  rfl

/-- The scales from the exponents. -/
theorem pow_at (e : FVec Ideal S1280x384 .f32) (p : Fin 1280) (n : Fin 384) : exp2 e (ix2 p n) = Ideal.exp2 (e (ix2 p n)) := by
  pointwise []
  rfl

theorem scale_at (p : Fin 1280) (n : Fin 384) :
    exp2 (ex x0 x3 x4) (ix2 p n) = wholeScale (mat x0) (first x3) (first x4) p n :=
  (pow_at (ex x0 x3 x4) p n).trans ((congrArg Ideal.exp2 (ex_at x0 x3 x4 p n)).trans (wholeScale_eq (mat x0) (first x3) (first x4) p n).symm)

/-- Groups laid out in one row. -/
theorem flat_at {e : EltTy} (z : Vec Ideal S1280x384x128 e) (p : Fin 1280) (v : Fin 49152) :
    shapeCast S1280x49152 z shapeCasts_S1280x384x128_S1280x49152 (ix2 p v) = z (ix3 p (grp v) (lane v)) :=
  shapeCast_apply z _ (ix2 p v) (ix3 p (grp v) (lane v)) (by
    rw [Shape.rowMajor_val_three, Shape.rowMajor_val_two]
    show (p.val * 384 + v.val / 128) * 128 + v.val % 128 = p.val * 49152 + v.val
    omega)

theorem pay14_at (p : Fin 1280) (v : Fin 49152) :
    k0_pay14 (k0_pay6 x0 x3 x4) (k0_pay8 x0 x3 x4) (k0_pay9 x0 x3 x4) (k0_pay10 (F := Ideal)) (ix2 p v)
      = wholeCode (mat x0) (first x3) (first x4) p v := by
  rw [k0_pay14, pay13_eq]
  refine (flat_at (e := .fp8e5m2) _ p v).trans ?_
  exact code_at x0 x3 x4 p (grp v) (lane v)

/-- The quantised gradients of all groups. -/
def quant (z : FVec Ideal S1280x384x128 .fp8e5m2) (s : FVec Ideal S1280x384 .f32) : FVec Ideal S1280x384x128 .bf16 :=
  mulf (extf .bf16 z bitsLt_fp8e5m2_bf16) (broadcastTo S1280x384x128 (shapeCast S1280x384x1 (truncf .bf16 s bitsLt_bf16_f32)
    shapeCasts_S1280x384_S1280x384x1) broadcasts_S1280x384x1_S1280x384x128)

theorem quant_at (z : FVec Ideal S1280x384x128 .fp8e5m2) (s : FVec Ideal S1280x384 .f32) (p : Fin 1280) (n : Fin 384) (l : Fin 128) :
    quant z s (ix3 p n l) = (z (ix3 p n l) * s (ix2 p n) : EReal) := by
  pointwise [quant]

theorem pay15_at (p : Fin 1280) (v : Fin 49152) :
    k0_pay15 (k0_pay6 x0 x3 x4) (k0_pay8 x0 x3 x4) (k0_pay9 x0 x3 x4) (k0_pay10 (F := Ideal)) (ix2 p v)
      = wholeQuant (mat x0) (first x3) (first x4) p v := by
  rw [k0_pay15, pay13_eq, pay12_eq]
  refine (flat_at (e := .bf16) (quant _ _) p v).trans ?_
  rw [quant_at, scale_at]
  exact congrArg (· * _) (code_at x0 x3 x4 p (grp v) (lane v))

/-- The weight gradients from the quantised gradients. -/
theorem dw_at (g : FVec Ideal S1280x49152 .bf16) (v : Fin 49152) (k : Fin 2048) :
    k0_pay1 g x5 (constant S49152x2048 .f32 0x00000000#32) (ix2 v k) = ∑ p : Fin 1280, (g (ix2 p v) * x5 (ix2 p k) : EReal) := by
  pointwise [k0_pay1]

/-- The activation gradients from the quantised gradients. -/
def product (g : FVec Ideal S1280x49152 .bf16) : FVec Ideal S1280x2048 .bf16 :=
  truncf .bf16 (matmul dot_S1280x49152_S49152x2048_S1280x2048_1_0_0_1_n_n none g (mulf (extf .bf16 x1 bitsLt_fp8e4m3_bf16)
    (broadcastTo S49152x2048 (truncf .bf16 (shapeCast S49152x1 x2 shapeCasts_S49152x1_S49152x1) bitsLt_bf16_f32) broadcasts_S49152x1_S49152x2048))
    (constant S1280x2048 .f32 0x00000000#32)) bitsLt_bf16_f32

theorem product_at (g : FVec Ideal S1280x49152 .bf16) (p : Fin 1280) (k : Fin 2048) :
    product x1 x2 g (ix2 p k) = ∑ v : Fin 49152, (g (ix2 p v) * (x1 (ix2 v k) * x2 (ix2 v 0)) : EReal) := by
  pointwise [product]

theorem pay16_at (p : Fin 1280) (k : Fin 2048) :
    k0_pay16 (k0_pay6 x0 x3 x4) (k0_pay8 x0 x3 x4) (k0_pay9 x0 x3 x4) (k0_pay10 (F := Ideal)) x1 x2 (ix2 p k)
      = wholeDX (mat x0) (first x3) (first x4) (mat x1) (first x2) p k := by
  have h : k0_pay16 (k0_pay6 x0 x3 x4) (k0_pay8 x0 x3 x4) (k0_pay9 x0 x3 x4) (k0_pay10 (F := Ideal)) x1 x2
      = product x1 x2 (k0_pay15 (k0_pay6 x0 x3 x4) (k0_pay8 x0 x3 x4) (k0_pay9 x0 x3 x4) (k0_pay10 (F := Ideal))) := rfl
  rw [h, product_at, wholeDX]
  exact Finset.sum_congr rfl fun v _ => congrArg (· * _) (pay15_at x0 x3 x4 p v)

theorem pay1_at (v : Fin 49152) (k : Fin 2048) :
    k0_pay1 (k0_pay15 (k0_pay6 x0 x3 x4) (k0_pay8 x0 x3 x4) (k0_pay9 x0 x3 x4) (k0_pay10 (F := Ideal))) x5 (constant S49152x2048 .f32 0x00000000#32)
      (ix2 v k) = wholeDW (mat x0) (first x3) (first x4) (mat x5) v k := by
  rw [dw_at, wholeDW]
  exact Finset.sum_congr rfl fun p _ => congrArg (· * _) (pay15_at x0 x3 x4 p v)

theorem pay5_at (p : Fin 1280) (l : Fin 128) : k0_pay5 x0 x3 x4 (ix2 p l) = wholeLoss (mat x0) (first x3) (first x4) p := by
  rw [← loss_eq]
  pointwise [k0_pay5, k0_pay4, k0_pay3, k0_pay2]
  simp only [ln2_eq, ofBits_thirty]
  rfl

end Payloads

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0]
      ∧ win0_9.index t = ![0, 0] ∧ win0_10.index t = ![0, 0] :=
  (by decide +kernel : ∀ t : Fin grid0.N, _)

/-! ## The arguments, as the functions the results are stated from -/

abbrev aT (p : Fin 1280) (v : Fin 49152) : EReal := m ((c : Thread nD τ).loc main_arg0) (ix2 p v)
abbrev aW (v : Fin 49152) (k : Fin 2048) : EReal := m ((c : Thread nD τ).loc main_arg1) (ix2 v k)
abbrev aS (v : Fin 49152) : EReal := m ((c : Thread nD τ).loc main_arg2) (ix1 v)
abbrev aL (p : Fin 1280) : EReal := m ((c : Thread nD τ).loc main_arg3) (ix1 p)
abbrev aLab (p : Fin 1280) : BitVec 32 := m ((c : Thread nD τ).loc main_arg4) (ix2 ⟨p.val / 640, by omega⟩ ⟨p.val % 640, by omega⟩)
abbrev aH (p : Fin 1280) (k : Fin 2048) : EReal := m ((c : Thread nD τ).loc main_arg5) (ix2 p k)

theorem blk0 : mat (iblk m c 0 t0_0) = aT m c := by
  funext p v; show iblk m c 0 t0_0 (ix2 p v) = _; blk_point [iblk, V, idx t0_0]
theorem blk1 : mat (iblk m c 1 t0_0) = aW m c := by
  funext p v; show iblk m c 1 t0_0 (ix2 p v) = _; blk_point [iblk, V, idx t0_0]
theorem blk2 : first (iblk m c 2 t0_0) = aS m c := by
  funext v; show iblk m c 2 t0_0 (ix2 v 0) = _; blk_point [iblk, V, idx t0_0]
theorem blk3 : first (iblk m c 3 t0_0) = aL m c := by
  funext v; show iblk m c 3 t0_0 (ix2 v 0) = _; blk_point [iblk, V, idx t0_0]
theorem blk4 : first (iblk m c 4 t0_0) = aLab m c := by
  funext v; show iblk m c 4 t0_0 (ix2 v 0) = _; blk_point [iblk, V, idx t0_0]
theorem blk5 : mat (iblk m c 5 t0_0) = aH m c := by
  funext p v; show iblk m c 5 t0_0 (ix2 p v) = _; blk_point [iblk, V, idx t0_0]

theorem final_codes : (dats m 0 c).arrAt 6 cfg0.N = fun i : S1280x49152.Idx => wholeCode (aT m c) (aL m c) (aLab m c) (i 0) (i 1) := by
  refine (dats m 0 c).arrAt_eq_of_after_last 6 t0_0 (by decide +kernel) _ fun j => ?_
  obtain ⟨p, l, rfl⟩ : ∃ (p : Fin 1280) (l : Fin 49152), j = ix2 p l := ⟨j 0, j 1, by blk_ext⟩
  blk_simp
  rw [after0_6]; frame_out
  rw [pay17_eq, pay18_eq, pay19_eq, pay20_eq]
  refine (pay14_at (iblk m c 0 t0_0) (iblk m c 3 t0_0) (iblk m c 4 t0_0) p l).trans ?_
  rw [blk0, blk3, blk4]
  rfl

theorem final_scales : (dats m 0 c).arrAt 7 cfg0.N = fun i : S1280x384.Idx => wholeScale (aT m c) (aL m c) (aLab m c) (i 0) (i 1) := by
  refine (dats m 0 c).arrAt_eq_of_after_last 7 t0_0 (by decide +kernel) _ fun j => ?_
  obtain ⟨p, l, rfl⟩ : ∃ (p : Fin 1280) (l : Fin 384), j = ix2 p l := ⟨j 0, j 1, by blk_ext⟩
  blk_simp
  rw [after0_7]; frame_out
  rw [pay18_eq, pay19_eq, pay20_eq]
  refine (congrFun (pay12_eq (iblk m c 0 t0_0) (iblk m c 3 t0_0) (iblk m c 4 t0_0)) (ix2 p l)).trans ((scale_at _ _ _ p l).trans ?_)
  rw [blk0, blk3, blk4]
  rfl

theorem final_dw : (dats m 0 c).arrAt 8 cfg0.N = fun i : S49152x2048.Idx => wholeDW (aT m c) (aL m c) (aLab m c) (aH m c) (i 0) (i 1) := by
  refine (dats m 0 c).arrAt_eq_of_after_last 8 t0_0 (by decide +kernel) _ fun j => ?_
  obtain ⟨p, l, rfl⟩ : ∃ (p : Fin 49152) (l : Fin 2048), j = ix2 p l := ⟨j 0, j 1, by blk_ext⟩
  blk_simp
  rw [after0_8]; frame_out
  rw [pay17_eq, pay18_eq, pay19_eq, pay20_eq]
  refine (pay1_at (iblk m c 0 t0_0) (iblk m c 3 t0_0) (iblk m c 4 t0_0) (iblk m c 5 t0_0) p l).trans ?_
  rw [blk0, blk3, blk4, blk5]
  rfl

theorem final_dx : (dats m 0 c).arrAt 9 cfg0.N = fun i : S1280x2048.Idx =>
    wholeDX (aT m c) (aL m c) (aLab m c) (aW m c) (aS m c) (i 0) (i 1) := by
  refine (dats m 0 c).arrAt_eq_of_after_last 9 t0_0 (by decide +kernel) _ fun j => ?_
  obtain ⟨p, l, rfl⟩ : ∃ (p : Fin 1280) (l : Fin 2048), j = ix2 p l := ⟨j 0, j 1, by blk_ext⟩
  blk_simp
  rw [after0_9]; frame_out
  rw [pay17_eq, pay18_eq, pay19_eq, pay20_eq]
  refine (pay16_at (iblk m c 0 t0_0) (iblk m c 1 t0_0) (iblk m c 2 t0_0) (iblk m c 3 t0_0) (iblk m c 4 t0_0) p l).trans ?_
  rw [blk0, blk1, blk2, blk3, blk4]
  rfl

theorem final_loss : (dats m 0 c).arrAt 10 cfg0.N = fun i : S1280x128.Idx => wholeLoss (aT m c) (aL m c) (aLab m c) (i 0) := by
  refine (dats m 0 c).arrAt_eq_of_after_last 10 t0_0 (by decide +kernel) _ fun j => ?_
  obtain ⟨p, l, rfl⟩ : ∃ (p : Fin 1280) (l : Fin 128), j = ix2 p l := ⟨j 0, j 1, by blk_ext⟩
  blk_simp
  rw [after0_10]; frame_out
  refine (pay5_at (iblk m c 0 t0_0) (iblk m c 3 t0_0) (iblk m c 4 t0_0) p l).trans ?_
  rw [blk0, blk3, blk4]
  rfl

end Cert.BwdRefIdeal.Hand
end
-- ==== Proof.lean ====
module

public import proofs.«01_k».proof.Defs
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdRefIdeal
public import proofs.«01_k».proof.Proof.Gen.FwdRefIdeal.Frame
public import proofs.«01_k».proof.Proof.Gen.FwdIdeal.Value
public import proofs.«01_k».proof.Proof.Gen.FwdRefIdeal.Value
public import proofs.«01_k».proof.Proof.FwdKernel
public import proofs.«01_k».proof.Proof.FwdReference
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.BwdBitsFrame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.BwdRefIdeal
public import proofs.«01_k».proof.Proof.Gen.BwdRefIdeal.Skeleton
public import proofs.«01_k».proof.Proof.Gen.BwdRefIdeal.Launch
public import proofs.«01_k».proof.Proof.Gen.BwdRefIdeal.Points
public import proofs.«01_k».proof.Proof.Gen.BwdRefIdeal.Frame
public import proofs.«01_k».proof.Proof.Gen.BwdRefIdeal.Value
public import proofs.«01_k».proof.Proof.BwdKernel
public import proofs.«01_k».proof.Proof.BwdReference
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Fwd

theorem algebraic_fwd : Cert.algebraic_FwdIdeal_FwdRefIdeal (hFwdIdeal := Cert.FwdIdeal.Gen.facts) (hFwdRefIdeal := Cert.FwdRefIdeal.Gen.facts) := by
  pair_intro
  · run_from Cert.FwdIdeal.Gen.run_main m g
  · run_from Cert.FwdRefIdeal.Gen.run_main m' g'
    · refine (Cert.FwdRefIdeal.Hand.final_t m' c).trans ?_
      rw [(hagree c).1, (hagree c).2.1, (hagree c).2.2.1, (hagree c).2.2.2]
      exact (Cert.FwdIdeal.Hand.final_t m c).symm
    · refine (Cert.FwdRefIdeal.Hand.final_l m' c).trans ?_
      rw [(hagree c).1, (hagree c).2.1, (hagree c).2.2.1, (hagree c).2.2.2]
      exact (Cert.FwdIdeal.Hand.final_l m c).symm

theorem preserves_fwd : Cert.preserves_Fwd_FwdIdeal :=
  ⟨IdealRules.named_const.statement Cert.FwdIdeal.κ "inv_cap" .f32 0x3D088889#32 _ rfl,
   IdealRules.named_const.statement Cert.FwdIdeal.κ "cap_log2e" .f32 0x422D1F97#32 _ rfl,
   IdealRules.named_const.statement Cert.FwdIdeal.κ "log2e" .f32 0x3FB8AA3B#32 _ rfl⟩

theorem algebraic_bwd : Cert.algebraic_BwdIdeal_BwdRefIdeal (hBwdIdeal := Cert.BwdIdeal.Gen.facts) (hBwdRefIdeal := Cert.BwdRefIdeal.Gen.facts) := by
  pair_intro
  · run_from Cert.BwdIdeal.Hand.results m g & Cert.BwdIdeal.Hand.frame m g
  · have eT (c) : Cert.BwdRefIdeal.Hand.aT m' c = Cert.BwdIdeal.Hand.aT m c := funext fun p => funext fun v => congrFun (hagree c).1 (ix2 p v)
    have eW (c) : Cert.BwdRefIdeal.Hand.aW m' c = Cert.BwdIdeal.Hand.aW m c := funext fun v => funext fun k => congrFun (hagree c).2.1 (ix2 v k)
    have eS (c) : Cert.BwdRefIdeal.Hand.aS m' c = Cert.BwdIdeal.Hand.aS m c := funext fun v => congrFun (hagree c).2.2.1 (ix1 v)
    have eL (c) : Cert.BwdRefIdeal.Hand.aL m' c = Cert.BwdIdeal.Hand.aL m c := funext fun p => congrFun (hagree c).2.2.2.1 (ix1 p)
    have eLab (c) : Cert.BwdRefIdeal.Hand.aLab m' c = Cert.BwdIdeal.Hand.aLab m c := funext fun p => congrFun (hagree c).2.2.2.2.1 (ix2 _ _)
    have eH (c) : Cert.BwdRefIdeal.Hand.aH m' c = Cert.BwdIdeal.Hand.aH m c := funext fun p => funext fun k => congrFun (hagree c).2.2.2.2.2 (ix2 p k)
    run_from Cert.BwdRefIdeal.Gen.run_main m' g'
    · exact (Cert.BwdRefIdeal.Hand.final_codes m' c).trans (by rw [eT, eL, eLab])
    · exact (Cert.BwdRefIdeal.Hand.final_scales m' c).trans (by rw [eT, eL, eLab])
    · exact (Cert.BwdRefIdeal.Hand.final_dw m' c).trans (by rw [eT, eL, eLab, eH])
    · exact (Cert.BwdRefIdeal.Hand.final_dx m' c).trans (by rw [eT, eL, eLab, eW, eS])
    · exact (Cert.BwdRefIdeal.Hand.final_loss m' c).trans (by rw [eT, eL, eLab])

theorem preserves_bwd : Cert.preserves_Bwd_BwdIdeal :=
  ⟨IdealRules.named_const.statement Cert.BwdIdeal.κ "cap_log2e" .f32 0x422D1F97#32 _ rfl,
   IdealRules.named_const.statement Cert.BwdIdeal.κ "log2e" .f32 0x3FB8AA3B#32 _ rfl,
   IdealRules.named_const.statement Cert.BwdIdeal.κ "ln2" .f32 0x3F317218#32 _ rfl⟩

theorem claim : Cert.Claim := ⟨Cert.Fwd.Gen.facts, Cert.FwdIdeal.Gen.facts, Cert.FwdRefIdeal.Gen.facts, Cert.Bwd.Gen.facts, Cert.BwdIdeal.Gen.facts, Cert.BwdRefIdeal.Gen.facts,
  fun m ρ _ => Cert.Fwd.Gen.frame m ρ, fun m ρ _ => Cert.FwdIdeal.Gen.frame m ρ, fun m ρ _ => Cert.FwdRefIdeal.Gen.frame m ρ,
  fun m ρ _ => Cert.Bwd.Hand.frame m ρ, fun m ρ _ => Cert.BwdIdeal.Hand.frame m ρ, fun m ρ _ => Cert.BwdRefIdeal.Gen.frame m ρ,
  preserves_fwd, algebraic_fwd, preserves_bwd, algebraic_bwd⟩

end Cert.Proof

end
